-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_mla [hPre_finite_mla : Cert.Pre_finite_mla.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_mla.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))) = (fun _ => 1#1)

def Pre_Experts [hPre_ranges : Cert.Pre_ranges.Facts] (m : (ℓ : Loc Cert.Experts.nD Cert.Experts.τ Cert.Experts.sig) → Buf (Elt Bits) ℓ) : Prop :=
  ∀ c : Dev Cert.Experts.nD,
    (Cert.Pre_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_ranges : Cert.Pre_ranges.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal [hPre_ranges : Cert.Pre_ranges.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_ranges.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaReferenceIdeal_pre_finite_mla [hMlaReferenceIdeal : Cert.MlaReferenceIdeal.Facts] [hPre_finite_mla : Cert.Pre_finite_mla.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_mla m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_Experts [hExperts : Cert.Experts.Facts] [hPre_ranges : Cert.Pre_ranges.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_ranges : Cert.Pre_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] [hPre_ranges : Cert.Pre_ranges.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mla_MlaIdeal : Prop :=
  IdealRules.named_const.Statement Cert.MlaIdeal.κ "qscale_mla" .f32 0x3E16C740#32 (((3424635 / 33554432) * (Real.log 2)⁻¹ : ℝ) : EReal)

def algebraic_MlaIdeal_MlaReferenceIdeal_pre_finite_mla [hMlaIdeal : Cert.MlaIdeal.Facts] [hMlaReferenceIdeal : Cert.MlaReferenceIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite_mla m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v9)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v9) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v17) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_ranges : Cert.Pre_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v62) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v23_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v23_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v55) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def Claim : Prop :=
  ∃ (hKernel : Cert.Kernel.Facts) (hKernelIdeal : Cert.KernelIdeal.Facts) (hReferenceIdeal : Cert.ReferenceIdeal.Facts) (hMla : Cert.Mla.Facts) (hMlaIdeal : Cert.MlaIdeal.Facts) (hMlaReferenceIdeal : Cert.MlaReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hPre_finite : Cert.Pre_finite.Facts) (hPre_finite_mla : Cert.Pre_finite_mla.Facts) (hPre_ranges : Cert.Pre_ranges.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaReferenceIdeal (hMlaReferenceIdeal := hMlaReferenceIdeal)
    ∧ quiescent_MlaReferenceIdeal_pre_finite_mla (hMlaReferenceIdeal := hMlaReferenceIdeal) (hPre_finite_mla := hPre_finite_mla)
    ∧ quiescent_Experts (hExperts := hExperts) (hPre_ranges := hPre_ranges)
    ∧ quiescent_ExpertsIdeal (hExpertsIdeal := hExpertsIdeal) (hPre_ranges := hPre_ranges)
    ∧ quiescent_ExpertsReferenceIdeal (hExpertsReferenceIdeal := hExpertsReferenceIdeal) (hPre_ranges := hPre_ranges)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mla_MlaIdeal
    ∧ algebraic_MlaIdeal_MlaReferenceIdeal_pre_finite_mla (hMlaIdeal := hMlaIdeal) (hMlaReferenceIdeal := hMlaReferenceIdeal) (hPre_finite_mla := hPre_finite_mla)
    ∧ preserves_Experts_ExpertsIdeal
    ∧ algebraic_ExpertsIdeal_ExpertsReferenceIdeal (hExpertsIdeal := hExpertsIdeal) (hExpertsReferenceIdeal := hExpertsReferenceIdeal) (hPre_ranges := hPre_ranges)
    ∧ preserves_Merge_MergeIdeal
    ∧ algebraic_MergeIdeal_MergeReferenceIdeal (hMergeIdeal := hMergeIdeal) (hMergeReferenceIdeal := hMergeReferenceIdeal)
-- ==== Pre_finite.lean ====
abbrev S8x4096x8x64 : Shape := ⟨4, ![8, 4096, 8, 64]⟩
abbrev S8x4096x2x64 : Shape := ⟨4, ![8, 4096, 2, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_

variable [Facts]

def fn {F : FTy → Type} [FloatOps F] (main_arg0 : FVec F S8x4096x8x64 .f32) (main_arg1 : FVec F S8x4096x2x64 .f32) (main_arg2 : FVec F S8x4096x2x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  main_v8
-- ==== Pre_finite_mla.lean ====
abbrev S8x4096x8x96 : Shape := ⟨4, ![8, 4096, 8, 96]⟩
abbrev S8x4096x8x64 : Shape := ⟨4, ![8, 4096, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel

variable [Facts]

def fn {F : FTy → Type} [FloatOps F] (main_arg0 : FVec F S8x4096x8x96 .f32) (main_arg1 : FVec F S8x4096x8x96 .f32) (main_arg2 : FVec F S8x4096x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  main_v8
-- ==== Pre_ranges.lean ====
abbrev S656 : Shape := ⟨1, ![656]⟩
abbrev S1 : Shape := ⟨1, ![1]⟩
abbrev S167936x1024 : Shape := ⟨2, ![167936, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S656 : S_.BroadcastsInDim S656 (![] : Fin 0 → Fin S656.rank)
  reducesTo_S656_S_d0 : S656.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S656 32) (main_arg1 : IVec S1 32) (main_arg2 : FVec F S167936x1024 .bf16) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S656 32 := broadcastInDim S656 ![] bcast_S_S656 main_c
  let main_v1 : IVec S656 1 := cmpi .sge main_arg0 main_v0
  let main_c_0 : IVec S_ 32 := constantI S_ 32 32#32
  let main_v2 : IVec S656 32 := broadcastInDim S656 ![] bcast_S_S656 main_c_0
  let main_v3 : IVec S656 1 := cmpi .slt main_arg0 main_v2
  let main_v4 : IVec S656 1 := andi main_v1 main_v3
  let main_c_1 : IVec S_ 1 := constantI S_ 1 1#1
  let main_v5 : IVec S_ 1 := (fun x v => Host.reduce IntOp.andi x v reducesTo_S656_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 656#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S8x4096x8x64 : Shape := ⟨4, ![8, 4096, 8, 64]⟩
abbrev S8x4096x2x64 : Shape := ⟨4, ![8, 4096, 2, 64]⟩
abbrev S8x8x64x4096 : Shape := ⟨4, ![8, 8, 64, 4096]⟩
abbrev S_ : Shape := ⟨0, ![]⟩
abbrev S8x4x64x4096 : Shape := ⟨4, ![8, 4, 64, 4096]⟩
abbrev S8x4x128x4096 : Shape := ⟨4, ![8, 4, 128, 4096]⟩
abbrev S8x8x128x4096 : Shape := ⟨4, ![8, 8, 128, 4096]⟩
abbrev S8x1024x4096 : Shape := ⟨3, ![8, 1024, 4096]⟩
abbrev S8x4096x128 : Shape := ⟨3, ![8, 4096, 128]⟩
abbrev S8x128x4096 : Shape := ⟨3, ![8, 128, 4096]⟩
abbrev S8x4096x512 : Shape := ⟨3, ![8, 4096, 512]⟩
abbrev S1x256x256 : Shape := ⟨3, ![1, 256, 256]⟩
abbrev S1x4096x128 : Shape := ⟨3, ![1, 4096, 128]⟩
abbrev S1x64x4096 : Shape := ⟨3, ![1, 64, 4096]⟩
abbrev S1x256x128 : Shape := ⟨3, ![1, 256, 128]⟩
abbrev S2x4096x256 : Shape := ⟨3, ![2, 4096, 256]⟩
abbrev S1x256 : Shape := ⟨2, ![1, 256]⟩
abbrev S16x512 : Shape := ⟨2, ![16, 512]⟩
abbrev S80x256 : Shape := ⟨2, ![80, 256]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x64x512 : Shape := ⟨3, ![1, 64, 512]⟩
abbrev S64x512 : Shape := ⟨2, ![64, 512]⟩
abbrev S80x512 : Shape := ⟨2, ![80, 512]⟩
abbrev S256 : Shape := ⟨1, ![256]⟩
abbrev S64x256 : Shape := ⟨2, ![64, 256]⟩
abbrev S256x128 : Shape := ⟨2, ![256, 128]⟩

abbrev nBuf : Space → Nat
  | .hbm => 18
  | .vmem => 10
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x8x64x4096, .f32⟩
  | .hbm, ⟨4, _⟩ => ⟨S_, .f32⟩
  | .hbm, ⟨5, _⟩ => ⟨S8x4x64x4096, .f32⟩
  | .hbm, ⟨6, _⟩ => ⟨S8x4x64x4096, .f32⟩
  | .hbm, ⟨7, _⟩ => ⟨S8x4x128x4096, .f32⟩
  | .hbm, ⟨8, _⟩ => ⟨S8x4x64x4096, .f32⟩
  | .hbm, ⟨9, _⟩ => ⟨S8x4x128x4096, .f32⟩
  | .hbm, ⟨10, _⟩ => ⟨S8x8x128x4096, .f32⟩
  | .hbm, ⟨11, _⟩ => ⟨S8x1024x4096, .f32⟩
  | .hbm, ⟨12, _⟩ => ⟨S8x4096x128, .f32⟩
  | .hbm, ⟨13, _⟩ => ⟨S8x4096x128, .bf16⟩
  | .hbm, ⟨14, _⟩ => ⟨S8x4096x128, .f32⟩
  | .hbm, ⟨15, _⟩ => ⟨S8x4096x128, .bf16⟩
  | .hbm, ⟨16, _⟩ => ⟨S8x128x4096, .bf16⟩
  | .hbm, ⟨17, _⟩ => ⟨S8x4096x512, .bf16⟩
  | .local _ .vmem, ⟨0, _⟩ => ⟨S1x256x256, .f32⟩
  | .local _ .vmem, ⟨1, _⟩ => ⟨S1x256x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x256x128, .bf16⟩
  | .local _ .vmem, ⟨7, _⟩ => ⟨S1x256x128, .bf16⟩
  | .local _ .vmem, ⟨8, _⟩ => ⟨S2x4096x256, .f32⟩
  | .local _ .vmem, ⟨9, _⟩ => ⟨S2x4096x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat, v54.toNat]

def cc0_transform_1 (i : grid0.Coords) : Fin 3 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, c0_i32_21.toNat, c0_i32_22.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c2_i32 : BitVec 32 := 2#32
  let v56 : BitVec 32 := Scalar.divsi v45 c2_i32
  let c0_i32_23 : BitVec 32 := 0#32
  let v57 : BitVec 1 := Scalar.cmpi .sgt v45 c0_i32_23
  let v58 : BitVec 32 := Scalar.extui v57
  let c0_i32_24 : BitVec 32 := 0#32
  let v59 : BitVec 1 := Scalar.cmpi .slt v45 c0_i32_24
  let v60 : BitVec 32 := Scalar.extui v59
  let v61 : BitVec 32 := Scalar.subi v58 v60
  let c0_i32_25 : BitVec 32 := 0#32
  let v62 : BitVec 1 := Scalar.cmpi .sgt c2_i32 c0_i32_25
  let v63 : BitVec 32 := Scalar.extui v62
  let c0_i32_26 : BitVec 32 := 0#32
  let v64 : BitVec 1 := Scalar.cmpi .slt c2_i32 c0_i32_26
  let v65 : BitVec 32 := Scalar.extui v64
  let v66 : BitVec 32 := Scalar.subi v63 v65
  let v67 : BitVec 1 := Scalar.cmpi .ne v61 v66
  let v68 : BitVec 32 := Scalar.remsi v45 c2_i32
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c0_i32_29 : BitVec 32 := 0#32
  let c0_i32_30 : BitVec 32 := 0#32
  ![v18.toNat, v72.toNat, c0_i32_29.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S8x4096x8x64 : Shape := ⟨4, ![8, 4096, 8, 64]⟩
abbrev S8x4096x2x64 : Shape := ⟨4, ![8, 4096, 2, 64]⟩
abbrev S_ : Shape := ⟨0, ![]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S_, .f32⟩
  | .hbm, ⟨4, _⟩ => ⟨S8x4096x8x64, .f32⟩
  | .hbm, ⟨5, _⟩ => ⟨S8x4096x8x64, .f32⟩
  | .hbm, ⟨6, _⟩ => ⟨S8x4096x2x4x64, .f32⟩
  | .hbm, ⟨7, _⟩ => ⟨S8x2x4096x4096x4, .f32⟩
  | .hbm, ⟨8, _⟩ => ⟨S8x2x4x4096x4096, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4096, .f32⟩
  | .hbm, ⟨16, _⟩ => ⟨S8x2x4x4096x4096, .f32⟩
  | .hbm, ⟨17, _⟩ => ⟨S8x2x4x4096x4096, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x64x4x4096, .f32⟩
  | .hbm, ⟨24, _⟩ => ⟨S8x4096x2x4x64, .f32⟩
  | .hbm, ⟨25, _⟩ => ⟨S8x4096x512, .f32⟩
  | .hbm, ⟨26, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mla.lean ====
abbrev S8x4096x8x96 : Shape := ⟨4, ![8, 4096, 8, 96]⟩
abbrev S8x4096x8x64 : Shape := ⟨4, ![8, 4096, 8, 64]⟩
abbrev S8x8x96x4096 : Shape := ⟨4, ![8, 8, 96, 4096]⟩
abbrev S_ : Shape := ⟨0, ![]⟩
abbrev S8x8x128x4096 : Shape := ⟨4, ![8, 8, 128, 4096]⟩
abbrev S8x1024x4096 : Shape := ⟨3, ![8, 1024, 4096]⟩
abbrev S8x4096x8x128 : Shape := ⟨4, ![8, 4096, 8, 128]⟩
abbrev S8x4096x1024 : Shape := ⟨3, ![8, 4096, 1024]⟩
abbrev S8x4096x512 : Shape := ⟨3, ![8, 4096, 512]⟩
abbrev S8x512x4096 : Shape := ⟨3, ![8, 512, 4096]⟩
abbrev S1x256x256 : Shape := ⟨3, ![1, 256, 256]⟩
abbrev S1x4096x256 : Shape := ⟨3, ![1, 4096, 256]⟩
abbrev S1x128x4096 : Shape := ⟨3, ![1, 128, 4096]⟩
abbrev S1x256x128 : Shape := ⟨3, ![1, 256, 128]⟩
abbrev S2x4096x256 : Shape := ⟨3, ![2, 4096, 256]⟩
abbrev S1x256 : Shape := ⟨2, ![1, 256]⟩
abbrev S16x512 : Shape := ⟨2, ![16, 512]⟩
abbrev S80x256 : Shape := ⟨2, ![80, 256]⟩
abbrev S1x128x256 : Shape := ⟨3, ![1, 128, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S1x64x512 : Shape := ⟨3, ![1, 64, 512]⟩
abbrev S64x512 : Shape := ⟨2, ![64, 512]⟩
abbrev S80x512 : Shape := ⟨2, ![80, 512]⟩
abbrev S256 : Shape := ⟨1, ![256]⟩
abbrev S64x256 : Shape := ⟨2, ![64, 256]⟩
abbrev S256x128 : Shape := ⟨2, ![256, 128]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x8x96x4096, .f32⟩
  | .hbm, ⟨4, _⟩ => ⟨S_, .i32⟩
  | .hbm, ⟨5, _⟩ => ⟨S_, .f32⟩
  | .hbm, ⟨6, _⟩ => ⟨S8x8x128x4096, .f32⟩
  | .hbm, ⟨7, _⟩ => ⟨S8x1024x4096, .f32⟩
  | .hbm, ⟨8, _⟩ => ⟨S_, .i32⟩
  | .hbm, ⟨9, _⟩ => ⟨S_, .f32⟩
  | .hbm, ⟨10, _⟩ => ⟨S8x4096x8x128, .f32⟩
  | .hbm, ⟨11, _⟩ => ⟨S8x4096x1024, .f32⟩
  | .hbm, ⟨12, _⟩ => ⟨S8x4096x1024, .bf16⟩
  | .hbm, ⟨13, _⟩ => ⟨S8x4096x512, .f32⟩
  | .hbm, ⟨14, _⟩ => ⟨S8x4096x512, .bf16⟩
  | .hbm, ⟨15, _⟩ => ⟨S8x512x4096, .bf16⟩
  | .hbm, ⟨16, _⟩ => ⟨S8x4096x512, .bf16⟩
  | .local _ .vmem, ⟨0, _⟩ => ⟨S1x256x256, .f32⟩
  | .local _ .vmem, ⟨1, _⟩ => ⟨S1x256x256, .f32⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x256x128, .bf16⟩
  | .local _ .vmem, ⟨7, _⟩ => ⟨S1x256x128, .bf16⟩
  | .local _ .vmem, ⟨8, _⟩ => ⟨S2x4096x256, .f32⟩
  | .local _ .vmem, ⟨9, _⟩ => ⟨S2x4096x256, .f32⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat, v54.toNat]

def cc0_transform_1 (i : grid0.Coords) : Fin 3 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, c0_i32_21.toNat, v44.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, v45.toNat, c0_i32_23.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlaIdeal.lean ====
variable {F : FTy → Type} [FloatOps F] [Named F]
def κ : String → Option EReal := fun
  | "qscale_mla" => some (((3424635 / 33554432) * (Real.log 2)⁻¹ : ℝ) : EReal)
  | _ => none
-- ==== MlaReferenceIdeal.lean ====
abbrev S8x4096x8x96 : Shape := ⟨4, ![8, 4096, 8, 96]⟩
abbrev S8x4096x8x64 : Shape := ⟨4, ![8, 4096, 8, 64]⟩
abbrev S_ : Shape := ⟨0, ![]⟩
abbrev S8x8x4096x4096 : Shape := ⟨4, ![8, 8, 4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S_, .f32⟩
  | .hbm, ⟨4, _⟩ => ⟨S8x4096x8x96, .f32⟩
  | .hbm, ⟨5, _⟩ => ⟨S8x4096x8x96, .f32⟩
  | .hbm, ⟨6, _⟩ => ⟨S8x8x4096x4096, .f32⟩
  | .hbm, ⟨7, _⟩ => ⟨S_, .f32⟩
  | .hbm, ⟨8, _⟩ => ⟨S8x8x4096, .f32⟩
  | .hbm, ⟨9, _⟩ => ⟨S_, .f32⟩
  | .hbm, ⟨10, _⟩ => ⟨S8x8x4096, .f32⟩
  | .hbm, ⟨11, _⟩ => ⟨S8x8x4096, .f32⟩
  | .hbm, ⟨12, _⟩ => ⟨S8x8x4096x1, .f32⟩
  | .hbm, ⟨13, _⟩ => ⟨S8x8x4096x4096, .f32⟩
  | .hbm, ⟨14, _⟩ => ⟨S8x8x4096x4096, .f32⟩
  | .hbm, ⟨15, _⟩ => ⟨S8x8x4096x4096, .f32⟩
  | .hbm, ⟨16, _⟩ => ⟨S_, .f32⟩
  | .hbm, ⟨17, _⟩ => ⟨S8x8x4096, .f32⟩
  | .hbm, ⟨18, _⟩ => ⟨S8x8x4096x1, .f32⟩
  | .hbm, ⟨19, _⟩ => ⟨S8x8x4096x4096, .f32⟩
  | .hbm, ⟨20, _⟩ => ⟨S8x8x4096x4096, .f32⟩
  | .hbm, ⟨21, _⟩ => ⟨S8x8x64x4096, .f32⟩
  | .hbm, ⟨22, _⟩ => ⟨S8x4096x8x64, .f32⟩
  | .hbm, ⟨23, _⟩ => ⟨S8x4096x512, .f32⟩
  | .hbm, ⟨24, _⟩ => ⟨S8x4096x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Experts.lean ====
abbrev S656 : Shape := ⟨1, ![656]⟩
abbrev S1 : Shape := ⟨1, ![1]⟩
abbrev S167936x1024 : Shape := ⟨2, ![167936, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S167936x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S167936x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S1024x2048, .bf16⟩
  | .local _ .vmem, ⟨13, _⟩ => ⟨S1024x1024, .bf16⟩
  | .local _ .smem, ⟨0, _⟩ => ⟨S656, .i32⟩
  | .local _ .smem, ⟨1, _⟩ => ⟨S1, .i32⟩
  | _, _ => ⟨S167936x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![656], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S656 : Shape := ⟨1, ![656]⟩
abbrev S1 : Shape := ⟨1, ![1]⟩
abbrev S167936x1024 : Shape := ⟨2, ![167936, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S656x256x1024 : Shape := ⟨3, ![656, 256, 1024]⟩
abbrev S_ : Shape := ⟨0, ![]⟩
abbrev S656x1 : Shape := ⟨2, ![656, 1]⟩
abbrev S656x1024x2048 : Shape := ⟨3, ![656, 1024, 2048]⟩
abbrev S656x256x2048 : Shape := ⟨3, ![656, 256, 2048]⟩
abbrev S656x2048 : Shape := ⟨2, ![656, 2048]⟩
abbrev S656x1x2048 : Shape := ⟨3, ![656, 1, 2048]⟩
abbrev S656x1024x1024 : Shape := ⟨3, ![656, 1024, 1024]⟩
abbrev S656x1024 : Shape := ⟨2, ![656, 1024]⟩
abbrev S656x1x1024 : Shape := ⟨3, ![656, 1, 1024]⟩
abbrev S656x1x1 : Shape := ⟨3, ![656, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S656, .i32⟩
  | .hbm, ⟨1, _⟩ => ⟨S1, .i32⟩
  | .hbm, ⟨2, _⟩ => ⟨S167936x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S167936x1024, .f32⟩
  | .hbm, ⟨8, _⟩ => ⟨S656x256x1024, .f32⟩
  | .hbm, ⟨9, _⟩ => ⟨S_, .i32⟩
  | .hbm, ⟨10, _⟩ => ⟨S656, .i32⟩
  | .hbm, ⟨11, _⟩ => ⟨S656, .i1⟩
  | .hbm, ⟨12, _⟩ => ⟨S_, .i32⟩
  | .hbm, ⟨13, _⟩ => ⟨S656, .i32⟩
  | .hbm, ⟨14, _⟩ => ⟨S656, .i32⟩
  | .hbm, ⟨15, _⟩ => ⟨S656, .i32⟩
  | .hbm, ⟨16, _⟩ => ⟨S656x1, .i32⟩
  | .hbm, ⟨17, _⟩ => ⟨S656x1024x2048, .f32⟩
  | .hbm, ⟨18, _⟩ => ⟨S656x256x2048, .f32⟩
  | .hbm, ⟨19, _⟩ => ⟨S_, .i32⟩
  | .hbm, ⟨20, _⟩ => ⟨S656, .i32⟩
  | .hbm, ⟨21, _⟩ => ⟨S656, .i1⟩
  | .hbm, ⟨22, _⟩ => ⟨S_, .i32⟩
  | .hbm, ⟨23, _⟩ => ⟨S656, .i32⟩
  | .hbm, ⟨24, _⟩ => ⟨S656, .i32⟩
  | .hbm, ⟨25, _⟩ => ⟨S656, .i32⟩
  | .hbm, ⟨26, _⟩ => ⟨S656x1, .i32⟩
  | .hbm, ⟨27, _⟩ => ⟨S656x2048, .f32⟩
  | .hbm, ⟨28, _⟩ => ⟨S656x1x2048, .f32⟩
  | .hbm, ⟨29, _⟩ => ⟨S656x256x2048, .f32⟩
  | .hbm, ⟨30, _⟩ => ⟨S656x256x2048, .f32⟩
  | .hbm, ⟨31, _⟩ => ⟨S656x256x1024, .f32⟩
  | .hbm, ⟨32, _⟩ => ⟨S_, .f32⟩
  | .hbm, ⟨33, _⟩ => ⟨S656x256x1024, .f32⟩
  | .hbm, ⟨34, _⟩ => ⟨S656x256x1024, .f32⟩
  | .hbm, ⟨35, _⟩ => ⟨S656x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S656x256x1024, .f32⟩
  | .hbm, ⟨40, _⟩ => ⟨S656x256x1024, .f32⟩
  | .hbm, ⟨41, _⟩ => ⟨S_, .f32⟩
  | .hbm, ⟨42, _⟩ => ⟨S656x256x1024, .f32⟩
  | .hbm, ⟨43, _⟩ => ⟨S656x256x1024, .f32⟩
  | .hbm, ⟨44, _⟩ => ⟨S_, .f32⟩
  | .hbm, ⟨45, _⟩ => ⟨S656x256x1024, .f32⟩
  | .hbm, ⟨46, _⟩ => ⟨S656x256x1024, .f32⟩
  | .hbm, ⟨47, _⟩ => ⟨S656x256x1024, .f32⟩
  | .hbm, ⟨48, _⟩ => ⟨S656x256x1024, .f32⟩
  | .hbm, ⟨49, _⟩ => ⟨S_, .f32⟩
  | .hbm, ⟨50, _⟩ => ⟨S656x256x1024, .f32⟩
  | .hbm, ⟨51, _⟩ => ⟨S656x256x1024, .f32⟩
  | .hbm, ⟨52, _⟩ => ⟨S_, .f32⟩
  | .hbm, ⟨53, _⟩ => ⟨S656x256x1024, .f32⟩
  | .hbm, ⟨54, _⟩ => ⟨S656x256x1024, .f32⟩
  | .hbm, ⟨55, _⟩ => ⟨S656x256x1024, .f32⟩
  | .hbm, ⟨56, _⟩ => ⟨S_, .f32⟩
  | .hbm, ⟨57, _⟩ => ⟨S656x256x1024, .f32⟩
  | .hbm, ⟨58, _⟩ => ⟨S656x256x1024, .f32⟩
  | .hbm, ⟨59, _⟩ => ⟨S656x256x1024, .f32⟩
  | .hbm, ⟨60, _⟩ => ⟨S_, .i32⟩
  | .hbm, ⟨61, _⟩ => ⟨S656, .i32⟩
  | .hbm, ⟨62, _⟩ => ⟨S656, .i1⟩
  | .hbm, ⟨63, _⟩ => ⟨S_, .i32⟩
  | .hbm, ⟨64, _⟩ => ⟨S656, .i32⟩
  | .hbm, ⟨65, _⟩ => ⟨S656, .i32⟩
  | .hbm, ⟨66, _⟩ => ⟨S656, .i32⟩
  | .hbm, ⟨67, _⟩ => ⟨S656x1, .i32⟩
  | .hbm, ⟨68, _⟩ => ⟨S656x1024x1024, .f32⟩
  | .hbm, ⟨69, _⟩ => ⟨S656x256x1024, .f32⟩
  | .hbm, ⟨70, _⟩ => ⟨S_, .i32⟩
  | .hbm, ⟨71, _⟩ => ⟨S656, .i32⟩
  | .hbm, ⟨72, _⟩ => ⟨S656, .i1⟩
  | .hbm, ⟨73, _⟩ => ⟨S_, .i32⟩
  | .hbm, ⟨74, _⟩ => ⟨S656, .i32⟩
  | .hbm, ⟨75, _⟩ => ⟨S656, .i32⟩
  | .hbm, ⟨76, _⟩ => ⟨S656, .i32⟩
  | .hbm, ⟨77, _⟩ => ⟨S656x1, .i32⟩
  | .hbm, ⟨78, _⟩ => ⟨S656x1024, .f32⟩
  | .hbm, ⟨79, _⟩ => ⟨S656x1x1024, .f32⟩
  | .hbm, ⟨80, _⟩ => ⟨S656x256x1024, .f32⟩
  | .hbm, ⟨81, _⟩ => ⟨S656x256x1024, .f32⟩
  | .hbm, ⟨82, _⟩ => ⟨S656, .i32⟩
  | .hbm, ⟨83, _⟩ => ⟨S656x1x1, .i32⟩
  | .hbm, ⟨84, _⟩ => ⟨S_, .i32⟩
  | .hbm, ⟨85, _⟩ => ⟨S656x1x1, .i32⟩
  | .hbm, ⟨86, _⟩ => ⟨S656x1x1, .i1⟩
  | .hbm, ⟨87, _⟩ => ⟨S_, .f32⟩
  | .hbm, ⟨88, _⟩ => ⟨S_, .f32⟩
  | .hbm, ⟨89, _⟩ => ⟨S656x256x1024, .i1⟩
  | .hbm, ⟨90, _⟩ => ⟨S656x256x1024, .f32⟩
  | .hbm, ⟨91, _⟩ => ⟨S656x256x1024, .f32⟩
  | .hbm, ⟨92, _⟩ => ⟨S167936x1024, .f32⟩
  | .hbm, ⟨93, _⟩ => ⟨S167936x1024, .bf16⟩
  | _, _ => ⟨S656, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S1024x5024 : Shape := ⟨2, ![1024, 5024]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1024x3072 : Shape := ⟨2, ![1024, 3072]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x3072 : Shape := ⟨2, ![1, 3072]⟩
abbrev S1x1024 : Shape := ⟨2, ![1, 1024]⟩
abbrev S32768x128 : Shape := ⟨2, ![32768, 128]⟩
abbrev S1024x512 : Shape := ⟨2, ![1024, 512]⟩
abbrev S256x1024 : Shape := ⟨2, ![256, 1024]⟩
abbrev S1024x256 : Shape := ⟨2, ![1024, 256]⟩
abbrev S256x256 : Shape := ⟨2, ![256, 256]⟩
abbrev S1x256 : Shape := ⟨2, ![1, 256]⟩
abbrev S256x512 : Shape := ⟨2, ![256, 512]⟩
abbrev S512x256 : Shape := ⟨2, ![512, 256]⟩
abbrev S256 : Shape := ⟨1, ![256]⟩
abbrev S256x1 : Shape := ⟨2, ![256, 1]⟩
abbrev S256x128 : Shape := ⟨2, ![256, 128]⟩

abbrev nBuf : Space → Nat
  | .hbm => 44
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S1024x5024, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x32, .f32⟩
  | .hbm, ⟨13, _⟩ => ⟨S32, .f32⟩
  | .hbm, ⟨14, _⟩ => ⟨S1024x3072, .f32⟩
  | .hbm, ⟨15, _⟩ => ⟨S1024x3072, .bf16⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1x1024x128, .bf16⟩
  | .hbm, ⟨24, _⟩ => ⟨S1x1024x128, .bf16⟩
  | .hbm, ⟨25, _⟩ => ⟨S2x1024x128, .bf16⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S32768x1024, .f32⟩
  | .hbm, ⟨31, _⟩ => ⟨S32768x512, .bf16⟩
  | .hbm, ⟨32, _⟩ => ⟨S32768x512, .bf16⟩
  | .hbm, ⟨33, _⟩ => ⟨S32768x512, .bf16⟩
  | .hbm, ⟨34, _⟩ => ⟨S1x3072, .f32⟩
  | .hbm, ⟨35, _⟩ => ⟨S512x1024, .bf16⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S32768x1024, .f32⟩
  | .hbm, ⟨42, _⟩ => ⟨S32768x128, .i32⟩
  | .hbm, ⟨43, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S1x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S2x1024x128, .bf16⟩
  | .local _ .vmem, ⟨17, _⟩ => ⟨S1x128, .f32⟩
  | .local _ .vmem, ⟨18, _⟩ => ⟨S1024x1024, .f32⟩
  | .local _ .vmem, ⟨19, _⟩ => ⟨S1024x1024, .f32⟩
  | .local _ .vmem, ⟨20, _⟩ => ⟨S1024x128, .i32⟩
  | .local _ .vmem, ⟨21, _⟩ => ⟨S1024x128, .i32⟩
  | .local _ .vmem, ⟨22, _⟩ => ⟨S1024x128, .f32⟩
  | .local _ .vmem, ⟨23, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S8x4096x1024 : Shape := ⟨3, ![8, 4096, 1024]⟩
abbrev S8x4096x512 : Shape := ⟨3, ![8, 4096, 512]⟩
abbrev S1024x5024 : Shape := ⟨2, ![1024, 5024]⟩
abbrev S3072 : Shape := ⟨1, ![3072]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1024x3072 : Shape := ⟨2, ![1024, 3072]⟩
abbrev S8x4096x3072 : Shape := ⟨3, ![8, 4096, 3072]⟩
abbrev S1x1x3072 : Shape := ⟨3, ![1, 1, 3072]⟩
abbrev S_ : Shape := ⟨0, ![]⟩
abbrev S8x4096x3x1024 : Shape := ⟨4, ![8, 4096, 3, 1024]⟩
abbrev S8x4096x1x1024 : Shape := ⟨4, ![8, 4096, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S1024x5024, .f32⟩
  | .hbm, ⟨5, _⟩ => ⟨S3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x32, .f32⟩
  | .hbm, ⟨13, _⟩ => ⟨S32, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S1024x3072, .f32⟩
  | .hbm, ⟨18, _⟩ => ⟨S8x4096x3072, .f32⟩
  | .hbm, ⟨19, _⟩ => ⟨S1x1x3072, .f32⟩
  | .hbm, ⟨20, _⟩ => ⟨S8x4096x3072, .f32⟩
  | .hbm, ⟨21, _⟩ => ⟨S8x4096x3072, .f32⟩
  | .hbm, ⟨22, _⟩ => ⟨S8x4096x3072, .f32⟩
  | .hbm, ⟨23, _⟩ => ⟨S8x4096x3072, .f32⟩
  | .hbm, ⟨24, _⟩ => ⟨S_, .f32⟩
  | .hbm, ⟨25, _⟩ => ⟨S8x4096x3072, .f32⟩
  | .hbm, ⟨26, _⟩ => ⟨S8x4096x3072, .f32⟩
  | .hbm, ⟨27, _⟩ => ⟨S_, .f32⟩
  | .hbm, ⟨28, _⟩ => ⟨S8x4096x3072, .f32⟩
  | .hbm, ⟨29, _⟩ => ⟨S8x4096x3072, .f32⟩
  | .hbm, ⟨30, _⟩ => ⟨S8x4096x3x1024, .f32⟩
  | .hbm, ⟨31, _⟩ => ⟨S8x4096x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Softmax.lean ====
/-
  The mathematics of softmax attention over the extended reals, free of any program.

  `top` is the greatest of the first `n` scores and `mass` the sum of the values, each weighted by two to its score less
  that maximum. `mass_add` says that rescaling to the new maximum and adding one more chunk gives the mass of the longer
  prefix; `weighted_eq` says that, for finite scores, the quotient of two such sums is the softmax average with natural
  exponentials.
-/
module

public import Idealize.ShloMosaic.PureOps.Ideal
public import Mathlib.Data.EReal.Inv
public import Mathlib.Analysis.SpecialFunctions.Pow.Real

@[expose] public section

noncomputable section

namespace Cert.Softmax

open Idealize.ShloMosaic

/-- Two to a difference is never negative. -/
theorem exp2_nonneg (x : EReal) : 0 ≤ Ideal.exp2 x := by
  induction x with
  | bot => simp
  | top => simp
  | coe r => simpa using (Real.rpow_pos_of_pos two_pos r).le

/-- Two to a difference that is not positive is finite. -/
theorem exp2_ne_top {x : EReal} (h : x ≠ ⊤) : Ideal.exp2 x ≠ ⊤ := by
  induction x with
  | bot => simp
  | top => exact absurd rfl h
  | coe r => simp

/-- The difference of a smaller and a larger extended real is not plus infinity. -/
theorem sub_ne_top {a b : EReal} (h : a ≤ b) : a - b ≠ ⊤ := by
  induction a with
  | bot => simp
  | top => rw [top_le_iff] at h; subst h; simp
  | coe r =>
    induction b with
    | bot => simp at h
    | top => simp
    | coe s => rw [← EReal.coe_sub]; exact EReal.coe_ne_top _

/-- Powers of two of successive differences multiply, at infinite ends too. -/
theorem exp2_mul {a b c : EReal} (hab : a ≤ b) (hbc : b ≤ c) :
    Ideal.exp2 (a - b) * Ideal.exp2 (b - c) = Ideal.exp2 (a - c) := by
  induction b with
  | bot => rw [le_bot_iff] at hab; subst hab; simp
  | top => rw [top_le_iff] at hbc; subst hbc; simp
  | coe s =>
    induction c with
    | bot => simp at hbc
    | top => simp
    | coe t =>
      induction a with
      | bot => simp
      | top => simp at hab
      | coe r =>
        rw [← EReal.coe_sub, ← EReal.coe_sub, ← EReal.coe_sub, Ideal.exp2_coe, Ideal.exp2_coe, Ideal.exp2_coe,
          ← EReal.coe_mul]
        congr 1
        exact (Real.rpow_add two_pos _ _).symm.trans (congrArg (Real.rpow 2) (by ring))

/-- A factor that is finite and not negative goes into a sum of any extended reals. -/
theorem sum_mul {ι : Type*} (S : Finset ι) (f : ι → EReal) {r : EReal} (h0 : 0 ≤ r) (ht : r ≠ ⊤) :
    (∑ i ∈ S, f i) * r = ∑ i ∈ S, f i * r := by
  classical
  induction S using Finset.induction_on with
  | empty => simp
  | insert a S ha ih =>
    rw [Finset.sum_insert ha, Finset.sum_insert ha, EReal.right_distrib_of_nonneg_of_ne_top h0 ht, ih]

/-- The greatest of the first `n` scores, minus infinity for none. -/
def top (s : ℕ → EReal) (n : ℕ) : EReal := (Finset.range n).sup s

/-- The first `n` values, each weighted by two to its score less the greatest of these scores. -/
def mass (s v : ℕ → EReal) (n : ℕ) : EReal := ∑ t ∈ Finset.range n, v t * Ideal.exp2 (s t - top s n)

/-- More scores have no smaller maximum. -/
theorem top_mono (s : ℕ → EReal) {n k : ℕ} (h : n ≤ k) : top s n ≤ top s k :=
  Finset.sup_mono (Finset.range_mono h)

/-- No score exceeds the maximum. -/
theorem le_top (s : ℕ → EReal) {n t : ℕ} (h : t < n) : s t ≤ top s n :=
  Finset.le_sup (Finset.mem_range.mpr h)

/-- The maximum after one more chunk of `k` scores. -/
theorem top_add (s : ℕ → EReal) (n k : ℕ) :
    top s (n + k) = max (top s n) ((Finset.univ : Finset (Fin k)).fold max ⊥ fun i => s (n + i.val)) := by
  have h : ∀ (S : Finset (Fin k)) (f : Fin k → EReal), S.fold max ⊥ f = S.sup f := fun S f => rfl
  rw [h]
  apply le_antisymm
  · refine Finset.sup_le fun t ht => ?_
    by_cases hn : t < n
    · exact le_max_of_le_left (le_top s hn)
    · have ht' := Finset.mem_range.mp ht
      refine le_max_of_le_right ?_
      have := Finset.le_sup (f := fun i : Fin k => s (n + i.val)) (Finset.mem_univ ⟨t - n, by omega⟩)
      rwa [show n + (⟨t - n, by omega⟩ : Fin k).val = t by simp; omega] at this
  · refine max_le (top_mono s (by omega)) (Finset.sup_le fun i _ => le_top s (by omega))

/-- Rescaling the mass to the new maximum and adding one more chunk's gives the longer prefix's mass. -/
theorem mass_add (s v : ℕ → EReal) (n k : ℕ) :
    mass s v (n + k) = mass s v n * Ideal.exp2 (top s n - top s (n + k))
      + ∑ i : Fin k, v (n + i.val) * Ideal.exp2 (s (n + i.val) - top s (n + k)) := by
  have hle := top_mono s (Nat.le_add_right n k)
  unfold mass
  rw [sum_mul _ _ (exp2_nonneg _) (exp2_ne_top (sub_ne_top hle)), Finset.sum_range_add,
    Finset.sum_range (n := k)]
  congr 1
  refine Finset.sum_congr rfl fun t ht => ?_
  rw [mul_assoc, exp2_mul (le_top s (Finset.mem_range.mp ht)) hle]

/-- The maximum of no scores. -/
theorem top_zero (s : ℕ → EReal) : top s 0 = ⊥ := rfl
/-- The mass of no scores. -/
theorem mass_zero (s v : ℕ → EReal) : mass s v 0 = 0 := by simp [mass]

/-- The greatest of at least one finite score is finite. -/
theorem top_coe (x : ℕ → ℝ) {n : ℕ} (hn : 0 < n) : ∃ M : ℝ, top (fun t => (x t : EReal)) n = M := by
  obtain ⟨t, -, ht⟩ := Finset.exists_mem_eq_sup (Finset.range n) ⟨0, Finset.mem_range.mpr hn⟩ (fun t => (x t : EReal))
  exact ⟨x t, ht⟩

/-- A positive factor goes through the greatest score. -/
theorem top_mul (x : ℕ → ℝ) (n : ℕ) {k : ℝ} (hk : 0 < k) (hn : 0 < n) (M : ℝ)
    (hM : top (fun t => (x t : EReal)) n = M) : top (fun t => ((k * x t : ℝ) : EReal)) n = ((k * M : ℝ) : EReal) := by
  apply le_antisymm
  · refine Finset.sup_le fun t ht => ?_
    have := le_top (fun t => (x t : EReal)) (Finset.mem_range.mp ht)
    rw [hM, EReal.coe_le_coe_iff] at this
    exact EReal.coe_le_coe_iff.mpr (mul_le_mul_of_nonneg_left this hk.le)
  · obtain ⟨t, ht, he⟩ :=
      Finset.exists_mem_eq_sup (Finset.range n) ⟨0, Finset.mem_range.mpr hn⟩ (fun t => (x t : EReal))
    have : (M : EReal) = x t := hM.symm.trans he
    rw [EReal.coe_eq_coe_iff] at this
    rw [this]
    exact le_top (fun t => ((k * x t : ℝ) : EReal)) (Finset.mem_range.mp ht)

/-- The softmax average as the reference takes it: each weight is divided by the sum of the weights first. -/
def average (u v : ℕ → EReal) (n : ℕ) : EReal :=
  ∑ t ∈ Finset.range n,
    v t * Ideal.div (Ideal.exp (u t - top u n)) (∑ r ∈ Finset.range n, Ideal.exp (u r - top u n))

/-- For finite scores, the quotient of the two running sums to base 2, of scores scaled by the logarithm of e to base 2,
    is the softmax average. -/
theorem weighted_eq (x : ℕ → ℝ) (v : ℕ → EReal) {n : ℕ} (hn : 0 < n) (s : ℕ → EReal)
    (hs : ∀ t, s t = (((Real.log 2)⁻¹ * x t : ℝ) : EReal)) :
    Ideal.div (mass s v n) (mass s (fun _ => 1) n) = average (fun t => (x t : EReal)) v n := by
  obtain rfl : s = fun t => (((Real.log 2)⁻¹ * x t : ℝ) : EReal) := funext hs
  obtain ⟨M, hM⟩ := top_coe x hn
  have hl2 : 0 < Real.log 2 := Real.log_pos one_lt_two
  have hsM := top_mul x n (inv_pos.mpr hl2) hn M hM
  have he : ∀ t, Ideal.exp2 ((((Real.log 2)⁻¹ * x t : ℝ) : EReal) - (((Real.log 2)⁻¹ * M : ℝ) : EReal))
      = ((Real.exp (x t - M) : ℝ) : EReal) := fun t => by
    rw [← EReal.coe_sub, Ideal.exp2_coe]
    congr 1
    exact (Real.rpow_def_of_pos two_pos _).trans (congrArg Real.exp (by field_simp))
  have hE : ∀ t, Ideal.exp ((x t : EReal) - (M : EReal)) = ((Real.exp (x t - M) : ℝ) : EReal) := fun t => by
    rw [← EReal.coe_sub]; rfl
  have hL : ∑ t ∈ Finset.range n, ((Real.exp (x t - M) : ℝ) : EReal)
      = ((∑ t ∈ Finset.range n, Real.exp (x t - M) : ℝ) : EReal) := by
    induction Finset.range n using Finset.induction_on with
    | empty => simp
    | insert a S ha ih => rw [Finset.sum_insert ha, Finset.sum_insert ha, EReal.coe_add, ih]
  have hpos : 0 < ∑ t ∈ Finset.range n, Real.exp (x t - M) :=
    Finset.sum_pos (fun _ _ => Real.exp_pos _) ⟨0, Finset.mem_range.mpr hn⟩
  have hdiv : ∀ y : EReal, Ideal.div y ((∑ t ∈ Finset.range n, Real.exp (x t - M) : ℝ) : EReal)
      = y * (((∑ t ∈ Finset.range n, Real.exp (x t - M))⁻¹ : ℝ) : EReal) := fun y => by
    unfold Ideal.div
    rw [if_neg (by exact_mod_cast hpos.ne'), ← EReal.coe_inv]
  unfold mass average
  simp only [hsM, he, hM, hE, hL, one_mul, hdiv]
  rw [sum_mul _ _ (by exact_mod_cast (inv_pos.mpr hpos).le) (EReal.coe_ne_top _)]
  exact Finset.sum_congr rfl fun t _ => mul_assoc _ _ _

end Cert.Softmax

end
-- ==== Proof.Step.lean ====
/-
  One chunk of the online softmax, read at an index: the running maximum and the running sum of the attention
  kernels over one more chunk of 512 keys. Both attention calls run this text.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Step

open Cert.KernelIdeal Cert.KernelIdeal.Gen Cert.Softmax Idealize.ShloMosaic Idealize.ShloMosaic.TcCoe

/-- The pattern of minus infinity in single precision. -/
theorem negInf : Ideal.ofBits .f32 0xFF800000#32 = (⊥ : EReal) := by simp [Ideal.ofBits, Ideal.ieee]

/-- The maximum after a chunk: of the maximum before and the chunk's greatest score. -/
theorem max_at (m : FVec Ideal S1x256 .f32) (s : Vec Ideal S1x512x256 .f32) (q : Fin 256) :
    k0_pay18 m s (ix2 0 q)
      = max (m (ix2 0 q)) ((Finset.univ : Finset (Fin 512)).fold max ⊥ fun i => s (ix3 0 i q)) := by
  pointwise [k0_pay18, k0_pay17]
  rw [negInf]

/-- The sum after a chunk: the sum before, rescaled to the new maximum, and the chunk's weighted values; the sixteen
    rows below the values weigh ones. -/
theorem acc_at (m : FVec Ideal S1x256 .f32) (a : FVec Ideal S80x256 .f32) (v : Vec Ideal S1x64x512 .bf16)
    (s : Vec Ideal S1x512x256 .f32) (e : Fin 80) (q : Fin 256) :
    k0_pay19 m k0_pay5 a v s (ix2 e q)
      = a (ix2 e q) * Ideal.exp2 (m (ix2 0 q) - k0_pay18 m s (ix2 0 q))
        + ∑ i : Fin 512, (if h : e.val < 64 then v (ix3 0 ⟨e.val, h⟩ i) else 1)
            * Ideal.exp2 (s (ix3 0 i q) - k0_pay18 m s (ix2 0 q)) := by
  pointwise [k0_pay19, k0_pay5, k0_pay17]
  rfl

/-- What the two running buffers hold after the first `n` keys, for scores `s` per query and values `v` per row. -/
def Inv (s : Fin 256 → ℕ → EReal) (v : Fin 64 → ℕ → EReal) (n : ℕ) (m : FVec Ideal S1x256 .f32)
    (a : FVec Ideal S80x256 .f32) : Prop :=
  ∀ q : Fin 256, m (ix2 0 q) = top (s q) n ∧
    ∀ e : Fin 80, a (ix2 e q) = mass (s q) (if h : e.val < 64 then v ⟨e.val, h⟩ else fun _ => 1) n

/-- Before the first chunk: minus infinity and zeros. -/
theorem inv_zero (s : Fin 256 → ℕ → EReal) (v : Fin 64 → ℕ → EReal) :
    Inv s v 0 (k0_pay4 (F := Ideal)) (k0_pay6 (F := Ideal)) := fun q =>
  ⟨by pointwise [k0_pay4]; rw [negInf, top_zero], fun e => by pointwise [k0_pay6]; rw [mass_zero]⟩

/-- One chunk takes what is held after `n` keys to what is held after 512 more. -/
theorem inv_step {s : Fin 256 → ℕ → EReal} {v : Fin 64 → ℕ → EReal} {n : ℕ} {m : FVec Ideal S1x256 .f32}
    {a : FVec Ideal S80x256 .f32} (h : Inv s v n m a) (sc : Vec Ideal S1x512x256 .f32)
    (vc : Vec Ideal S1x64x512 .bf16) (hs : ∀ (i : Fin 512) (q : Fin 256), sc (ix3 0 i q) = s q (n + i.val))
    (hv : ∀ (e : Fin 64) (i : Fin 512), vc (ix3 0 e i) = v e (n + i.val)) :
    Inv s v (n + 512) (k0_pay18 m sc) (k0_pay19 m (k0_pay5 (F := Ideal)) a vc sc) := fun q => by
  have hm : k0_pay18 m sc (ix2 0 q) = top (s q) (n + 512) := by
    rw [max_at, (h q).1, top_add]
    simp only [hs]
  refine ⟨hm, fun e => ?_⟩
  rw [acc_at, hm, (h q).1, (h q).2 e, mass_add]
  refine congrArg _ (Finset.sum_congr rfl fun i _ => ?_)
  rw [hs]
  congr 1
  split
  · exact hv _ _
  · rfl

/-- The last operations of a point on the two heads' sums: each head's 64 value rows over its row of ones, the two
    heads side by side. -/
def finish (a0 a1 : FVec Ideal S80x256 .f32) : FVec Ideal S1x256x128 .bf16 :=
  shapeCast S1x256x128 (truncf .bf16 (transpose S256x128 [1, 0] (concatenate S128x256 0
    [⟨S64x256, divf (extractStridedSlice S64x256 ![0, 0] a0 slices_S80x256_o0_0_S64x256)
        (broadcastTo S64x256 (extractStridedSlice S1x256 ![64, 0] a0 slices_S80x256_o64_0_S1x256)
          broadcasts_S1x256_S64x256)⟩,
     ⟨S64x256, divf (extractStridedSlice S64x256 ![0, 0] a1 slices_S80x256_o0_0_S64x256)
        (broadcastTo S64x256 (extractStridedSlice S1x256 ![64, 0] a1 slices_S80x256_o64_0_S1x256)
          broadcasts_S1x256_S64x256)⟩]
    concatenates_S64x256_S64x256_S128x256_d0) transposes_S128x256_p1_0_S256x128) bitsLt_bf16_f32)
    shapeCasts_S256x128_S1x256x128

/-- An element of the finished output: the quotient of the sum of the weighted values and the sum of the weights. -/
theorem finish_at (a0 a1 : FVec Ideal S80x256 .f32) (q : Fin 256) (l : Fin 128) :
    finish a0 a1 (ix3 0 q l) = if h : l.val < 64 then Ideal.div (a0 (ix2 ⟨l.val, by omega⟩ q)) (a0 (ix2 64 q))
      else Ideal.div (a1 (ix2 ⟨l.val - 64, by omega⟩ q)) (a1 (ix2 64 q)) := by
  pointwise [finish]

/-- After all keys: each head's quotient of sums. -/
theorem finish_inv {s0 s1 : Fin 256 → ℕ → EReal} {v0 v1 : Fin 64 → ℕ → EReal} {n : ℕ}
    {m0 m1 : FVec Ideal S1x256 .f32} {a0 a1 : FVec Ideal S80x256 .f32} (h0 : Inv s0 v0 n m0 a0)
    (h1 : Inv s1 v1 n m1 a1) (q : Fin 256) (l : Fin 128) :
    finish a0 a1 (ix3 0 q l)
      = if h : l.val < 64 then Ideal.div (mass (s0 q) (v0 ⟨l.val, h⟩) n) (mass (s0 q) (fun _ => 1) n)
        else Ideal.div (mass (s1 q) (v1 ⟨l.val - 64, by omega⟩) n) (mass (s1 q) (fun _ => 1) n) := by
  rw [finish_at]
  split
  · rename_i h
    rw [(h0 q).2, (h0 q).2, dif_pos h]
    rfl
  · rename_i h
    rw [(h1 q).2, (h1 q).2, dif_pos (show l.val - 64 < 64 by omega)]
    rfl

end Cert.KernelIdeal.Step

end
-- ==== Proof.Heads.lean ====
/-
  The eight chunks of one head, over a scratch of scores and a block of transposed values.
-/
module

public import proofs.«01_k».proof.Proof.Step
public import Idealize.ShloMosaic.Lib.Pipeline.ValueKit

@[expose] public section

set_option maxRecDepth 16384

noncomputable section

namespace Cert.KernelIdeal.Heads

open Cert.KernelIdeal Cert.KernelIdeal.Gen Cert.KernelIdeal.Step Cert.Softmax
open Idealize.ShloMosaic Idealize.ShloMosaic.TcCoe

/-- The scores of one head for one query lane, as a function of the key. -/
def score (S : Vec Ideal S2x4096x256 .f32) (h : Fin 2) (q : Fin 256) : ℕ → EReal := fun t =>
  if ht : t < 4096 then S (ix3 h ⟨t, ht⟩ q) else 0

/-- The chunk of 512 keys from `n` on of one head's scores. -/
def scoreChunk (S : Vec Ideal S2x4096x256 .f32) (h n : ℕ)
    (hb : ∀ a, (![h, n, 0] : Fin 3 → ℕ) a + (![1, 512, 256] : Fin 3 → ℕ) a ≤ S2x4096x256.size a) :
    Vec Ideal S1x512x256 .f32 :=
  View.ld S (Rect.unit ![h, n, 0] ![1, 512, 256] hb)

/-- An element of one chunk of one head's scores. -/
theorem scoreChunk_at (S : Vec Ideal S2x4096x256 .f32) (h : Fin 2) (n : ℕ) (hn : n + 512 ≤ 4096)
    (hb : ∀ a, (![h.val, n, 0] : Fin 3 → ℕ) a + (![1, 512, 256] : Fin 3 → ℕ) a ≤ S2x4096x256.size a)
    (i : Fin 512) (q : Fin 256) : scoreChunk S h.val n hb (ix3 0 i q) = score S h q (n + i.val) := by
  unfold score
  rw [dif_pos (by omega)]
  pointwise [scoreChunk]

/-- One chunk: the running maximum and the running sum over the chunk's scores `sc` and values `vc`. -/
def step (sc : Vec Ideal S1x512x256 .f32) (vc : Vec Ideal S1x64x512 .bf16)
    (p : FVec Ideal S1x256 .f32 × FVec Ideal S80x256 .f32) : FVec Ideal S1x256 .f32 × FVec Ideal S80x256 .f32 :=
  (k0_pay18 p.1 sc, k0_pay19 p.1 (k0_pay5 (F := Ideal)) p.2 vc sc)

/-- All eight chunks, in order. -/
def chunks (sc : Fin 8 → Vec Ideal S1x512x256 .f32) (vc : Fin 8 → Vec Ideal S1x64x512 .bf16) :
    FVec Ideal S1x256 .f32 × FVec Ideal S80x256 .f32 :=
  step (sc 7) (vc 7) (step (sc 6) (vc 6) (step (sc 5) (vc 5) (step (sc 4) (vc 4) (step (sc 3) (vc 3)
    (step (sc 2) (vc 2) (step (sc 1) (vc 1) (step (sc 0) (vc 0) (k0_pay4 (F := Ideal), k0_pay6 (F := Ideal)))))))))

/-- After the eight chunks the buffers hold what they should after 4096 keys. -/
theorem chunks_inv (s : Fin 256 → ℕ → EReal) (v : Fin 64 → ℕ → EReal) (sc : Fin 8 → Vec Ideal S1x512x256 .f32)
    (vc : Fin 8 → Vec Ideal S1x64x512 .bf16)
    (hs : ∀ (k : Fin 8) (i : Fin 512) (q : Fin 256), sc k (ix3 0 i q) = s q (512 * k.val + i.val))
    (hv : ∀ (k : Fin 8) (e : Fin 64) (i : Fin 512), vc k (ix3 0 e i) = v e (512 * k.val + i.val)) :
    Inv s v 4096 (chunks sc vc).1 (chunks sc vc).2 := by
  have h := inv_step (inv_zero s v) (sc 0) (vc 0) (hs 0) (hv 0)
  have h := inv_step h (sc 1) (vc 1) (hs 1) (hv 1)
  have h := inv_step h (sc 2) (vc 2) (hs 2) (hv 2)
  have h := inv_step h (sc 3) (vc 3) (hs 3) (hv 3)
  have h := inv_step h (sc 4) (vc 4) (hs 4) (hv 4)
  have h := inv_step h (sc 5) (vc 5) (hs 5) (hv 5)
  have h := inv_step h (sc 6) (vc 6) (hs 6) (hv 6)
  exact inv_step h (sc 7) (vc 7) (hs 7) (hv 7)

/-- One head's scores, by chunk. -/
def scores (S : Vec Ideal S2x4096x256 .f32) (h : Fin 2) : Fin 8 → Vec Ideal S1x512x256 .f32 := fun k =>
  scoreChunk S h.val (512 * k.val) (by
    intro a
    match a with
    | 0 => exact h.isLt
    | 1 => show 512 * k.val + 512 ≤ 4096; omega
    | 2 => exact le_refl _)

/-- An element of a head's scores, by chunk. -/
theorem scores_at (S : Vec Ideal S2x4096x256 .f32) (h : Fin 2) (k : Fin 8) (i : Fin 512) (q : Fin 256) :
    scores S h k (ix3 0 i q) = score S h q (512 * k.val + i.val) := scoreChunk_at S h _ (by omega) _ i q

end Cert.KernelIdeal.Heads

end
-- ==== Proof.Body.lean ====
/-
  What one grid point of the grouped-query attention call computes: the scores it leaves for the next point, and the
  output it takes from the scores the point before left.
-/
module

public import proofs.«01_k».proof.Proof.Gen.KernelIdeal.Value
public import proofs.«01_k».proof.Proof.Heads

@[expose] public section

set_option maxRecDepth 16384

noncomputable section

namespace Cert.KernelIdeal.Body

open Cert.KernelIdeal Cert.KernelIdeal.Gen Cert.KernelIdeal.Step Cert.KernelIdeal.Heads Cert.Softmax
open Idealize.ShloMosaic Idealize.ShloMosaic.TcCoe

/-- One row of the transposed values, as a function of the key. -/
def value (V : Vec Ideal S1x64x4096 .bf16) (e : Fin 64) : ℕ → EReal := fun t =>
  if ht : t < 4096 then V (ix3 0 e ⟨t, ht⟩) else 0

/-- The transposed values, by chunk of 512 keys. -/
def values (V : Vec Ideal S1x64x4096 .bf16) : Fin 8 → Vec Ideal S1x64x512 .bf16 := fun k =>
  View.ld V (Rect.unit ![0, 0, 512 * k.val] ![1, 64, 512] (by
    intro a
    match a with
    | 0 => exact le_refl _
    | 1 => exact le_refl _
    | 2 => show 512 * k.val + 512 ≤ 4096; omega))

/-- A chunk's values are the values of its keys. -/
theorem values_at (V : Vec Ideal S1x64x4096 .bf16) (k : Fin 8) (e : Fin 64) (i : Fin 512) :
    values V k (ix3 0 e i) = value V e (512 * k.val + i.val) := by
  unfold value
  rw [dif_pos (by omega)]
  pointwise [values]

/-- The point's output over scores `S` and values `V`. -/
def output (S : Vec Ideal S2x4096x256 .f32) (V : Vec Ideal S1x64x4096 .bf16) : FVec Ideal S1x256x128 .bf16 :=
  finish (chunks (scores S 0) (values V)).2 (chunks (scores S 1) (values V)).2

/-- The output at query lane `q` and column `l`: head `l / 64` of the pair, value column `l % 64`. -/
theorem output_at (S : Vec Ideal S2x4096x256 .f32) (V : Vec Ideal S1x64x4096 .bf16) (q : Fin 256) (l : Fin 128) :
    output S V (ix3 0 q l)
      = Ideal.div (mass (score S ⟨l.val / 64, by omega⟩ q) (value V ⟨l.val % 64, by omega⟩) 4096)
          (mass (score S ⟨l.val / 64, by omega⟩ q) (fun _ => 1) 4096) := by
  unfold output
  rw [finish_inv (chunks_inv (score S 0) (value V) _ _ (scores_at S 0) (values_at V))
    (chunks_inv (score S 1) (value V) _ _ (scores_at S 1) (values_at V))]
  split
  · rename_i h
    have e0 : (⟨l.val / 64, by omega⟩ : Fin 2) = 0 := Fin.ext (by show l.val / 64 = 0; omega)
    have e1 : (⟨l.val % 64, by omega⟩ : Fin 64) = ⟨l.val, h⟩ := Fin.ext (by show l.val % 64 = l.val; omega)
    rw [e0, e1]
  · rename_i h
    have e0 : (⟨l.val / 64, by omega⟩ : Fin 2) = 1 := Fin.ext (by show l.val / 64 = 1; omega)
    have e1 : (⟨l.val % 64, by omega⟩ : Fin 64) = ⟨l.val - 64, by omega⟩ :=
      Fin.ext (by show l.val % 64 = l.val - 64; omega)
    rw [e0, e1]

variable (c : Dev nD) (i : grid0.Coords) (arg1 : Memref sig .tc .vmem S1x256x256 .f32) (harg1 : arg1.IsWhole)
  (arg2 : Memref sig .tc .vmem S1x4096x128 .bf16) (harg2 : arg2.IsWhole)
  (arg3 : Memref sig .tc .vmem S1x64x4096 .bf16) (harg3 : arg3.IsWhole)
  (arg4 : Memref sig .tc .vmem S1x256x128 .bf16) (harg4 : arg4.IsWhole)
  (arg5 : Memref sig .tc .vmem S2x4096x256 .f32) (harg5 : arg5.IsWhole)
  (arg6 : Memref sig .tc .vmem S2x4096x256 .f32) (harg6 : arg6.IsWhole)
  (x0 : Vec Ideal S1x256x256 .f32) (x1 : Vec Ideal S1x4096x128 .bf16) (x2 : Vec Ideal S1x64x4096 .bf16)
  (xs : Vec Ideal S2x4096x256 .f32)

/-- The output of an odd point. -/
theorem out_odd (hc0 : ¬cond0_0 i) (hc1 : ¬cond0_1 i) (hc2 : cond0_2 i) :
    out0_B_3 c i arg1 harg1 arg2 harg2 arg3 harg3 arg4 harg4 arg5 harg5 arg6 harg6 hc0 hc1 hc2 x0 x1 x2 xs
      = output xs x2 := by
  frame_out
  rfl

/-- The output of an even point after the first. -/
theorem out_even (hc0 : ¬cond0_0 i) (hc1 : cond0_1 i) (hc2 : ¬cond0_2 i) :
    out0_C_3 c i arg1 harg1 arg2 harg2 arg3 harg3 arg4 harg4 arg5 harg5 arg6 harg6 hc0 hc1 hc2 x0 x1 x2 xs
      = output xs x2 := by
  frame_out
  rfl

end Cert.KernelIdeal.Body

end
-- ==== Proof.Scratch.lean ====
/-
  The scores one grid point of the grouped-query attention call leaves for the next point.
-/
module

public import proofs.«01_k».proof.Proof.Body

@[expose] public section

set_option maxRecDepth 16384

noncomputable section

namespace Cert.KernelIdeal.Scratch

open Cert.KernelIdeal Cert.KernelIdeal.Gen
open Idealize.ShloMosaic Idealize.ShloMosaic.TcCoe

/-- The scale of the queries: one over the root of a head's 64 lanes, in units of `log 2`. -/
def scale : EReal := ((1 / 8 * (Real.log 2)⁻¹ : ℝ) : EReal)

/-- What the constant named in the program denotes. -/
theorem named_scale : (Named.named κ "qscale" 0x3E38AA3B#32 : Ideal .f32) = scale := rfl

/-- The scores of a point: every key row against the scaled query column of each head of the pair, over the 128 lanes. -/
def logits (x0 : Vec Ideal S1x256x256 .f32) (x1 : Vec Ideal S1x4096x128 .bf16) : Vec Ideal S2x4096x256 .f32 := fun y =>
  ∑ d : Fin 128, x1 (ix3 0 (y 1) d)
    * (x0 (ix3 0 ⟨128 * (y 0).val + d.val, by have h : (y 0).val < 2 := (y 0).isLt; omega⟩ (y 2)) * scale)

variable (c : Dev nD) (i : grid0.Coords) (arg1 : Memref sig .tc .vmem S1x256x256 .f32) (harg1 : arg1.IsWhole)
  (arg2 : Memref sig .tc .vmem S1x4096x128 .bf16) (harg2 : arg2.IsWhole)
  (arg3 : Memref sig .tc .vmem S1x64x4096 .bf16) (harg3 : arg3.IsWhole)
  (arg4 : Memref sig .tc .vmem S1x256x128 .bf16) (harg4 : arg4.IsWhole)
  (arg5 : Memref sig .tc .vmem S2x4096x256 .f32) (harg5 : arg5.IsWhole)
  (arg6 : Memref sig .tc .vmem S2x4096x256 .f32) (harg6 : arg6.IsWhole)
  (x0 : Vec Ideal S1x256x256 .f32) (x1 : Vec Ideal S1x4096x128 .bf16) (x2 : Vec Ideal S1x64x4096 .bf16)
  (xs : Vec Ideal S2x4096x256 .f32)

/-- The scores an odd point leaves. -/
theorem scratch_odd (hc0 : ¬cond0_0 i) (hc1 : ¬cond0_1 i) (hc2 : cond0_2 i) :
    sout0_B_1 c i arg1 harg1 arg2 harg2 arg3 harg3 arg4 harg4 arg5 harg5 arg6 harg6 hc0 hc1 hc2 x0 x1 x2 xs
      = logits x0 x1 := by
  frame_out
  funext y
  canon_tiles x h
  all_goals (open_payloads; pointwise [logits, named_scale]; blk_point [])

/-- The scores an even point after the first leaves. -/
theorem scratch_even (hc0 : ¬cond0_0 i) (hc1 : cond0_1 i) (hc2 : ¬cond0_2 i) :
    sout0_C_0 c i arg1 harg1 arg2 harg2 arg3 harg3 arg4 harg4 arg5 harg5 arg6 harg6 hc0 hc1 hc2 x0 x1 x2 xs
      = logits x0 x1 := by
  frame_out
  funext y
  canon_tiles x h
  all_goals (open_payloads; pointwise [logits, named_scale]; blk_point [])

/-- The scores the first point leaves. -/
theorem scratch_first (hc0 : cond0_0 i) (hc1 : cond0_1 i) (hc2 : ¬cond0_2 i) :
    sout0_A_0 c i arg1 harg1 arg2 harg2 arg3 harg3 arg4 harg4 arg5 harg5 arg6 harg6 hc0 hc1 hc2 x0 x1 x2
      = logits x0 x1 := by
  frame_out
  funext y
  canon_tiles x h
  all_goals (open_payloads; pointwise [logits, named_scale]; blk_point [])

end Cert.KernelIdeal.Scratch

end
-- ==== Proof.Points.lean ====
/-
  The grouped-query attention call point by point: point `t` scores item `t` and finishes item `t - 1`; an item is a
  batch entry, a pair of heads and a block of 256 queries.
-/
module

public import proofs.«01_k».proof.Proof.Scratch

@[expose] public section

set_option maxRecDepth 16384

noncomputable section

namespace Cert.KernelIdeal.Points

open Cert.KernelIdeal Cert.KernelIdeal.Gen Cert.KernelIdeal.Step Cert.KernelIdeal.Heads Cert.KernelIdeal.Body
open Cert.KernelIdeal.Scratch Cert.Softmax
open Idealize.ShloMosaic Idealize.ShloMosaic.TcCoe
open Idealize.ShloMosaic.Pipeline (Dat)

variable (m : (ℓ : Loc nD τ sig) → Buf (Elt Ideal) ℓ)

/-- Where the blocks of queries and keys sit: item `t`, the last one again at the closing point. -/
theorem idx_in : ∀ t : Fin cfg0.N, t.val < 512 →
    win0_0.index t = ![t.val / 64, t.val / 16 % 4, t.val % 16] ∧ win0_1.index t = ![t.val / 64, 0, 0] :=
  (by decide +kernel : ∀ t : Fin grid0.N, t.val < 512 →
    win0_0.index t = ![t.val / 64, t.val / 16 % 4, t.val % 16] ∧ win0_1.index t = ![t.val / 64, 0, 0])

/-- Where the blocks of values and of the output sit: item `t - 1`. -/
theorem idx_out : ∀ t : Fin cfg0.N,
    win0_2.index t = ![(t.val - 1) / 64, (t.val - 1) / 32 % 2, 0]
    ∧ win0_3.index t = ![(t.val - 1) / 64, (t.val - 1) % 16, (t.val - 1) / 16 % 4] :=
  (by decide +kernel : ∀ t : Fin grid0.N,
    win0_2.index t = ![(t.val - 1) / 64, (t.val - 1) / 32 % 2, 0]
    ∧ win0_3.index t = ![(t.val - 1) / 64, (t.val - 1) % 16, (t.val - 1) / 16 % 4])

/-- The first point writes nothing back. -/
theorem flush_pos : ∀ t : Fin cfg0.N, (cfg0.win 3).flush t = true → 0 < t.val :=
  (by decide +kernel : ∀ t : Fin grid0.N, (cfg0.win 3).flush t = true → 0 < t.val)

/-- An even point leaves its item's scores in the first scratch. -/
theorem scores_even (c : Dev nD) (t : Fin cfg0.N) (h : t.val % 2 = 0) :
    (outsAt0 m c t.val t.isLt).2.1 = logits (iblk m c 0 t) (iblk m c 1 t) := by
  have h2 : ¬t.val % 2 = 1 := by rw [h]; decide
  by_cases h0 : t.val % 513 = 0
  · simp only [outsAt0_A m c t h0 h h2, scratch_first]
  · simp only [outsAt0_C m c t h0 h h2, scratch_even]

/-- The first point is even. -/
theorem odd_facts : ∀ t : Fin cfg0.N, t.val % 2 = 1 → ¬t.val % 513 = 0 ∧ ¬t.val % 2 = 0 :=
  (by decide +kernel : ∀ t : Fin grid0.N, t.val % 2 = 1 → ¬t.val % 513 = 0 ∧ ¬t.val % 2 = 0)

/-- Later points are not the first. -/
theorem pos_facts : ∀ t : Fin cfg0.N, 0 < t.val → ¬t.val % 513 = 0 :=
  (by decide +kernel : ∀ t : Fin grid0.N, 0 < t.val → ¬t.val % 513 = 0)

/-- An odd point leaves its item's scores in the second scratch. -/
theorem scores_odd (c : Dev nD) (t : Fin cfg0.N) (h : t.val % 2 = 1) :
    (outsAt0 m c t.val t.isLt).2.2 = logits (iblk m c 0 t) (iblk m c 1 t) := by
  simp only [outsAt0_B m c t (odd_facts t h).1 (odd_facts t h).2 h, scratch_odd]

/-- The point before. -/
def pred (t : Fin cfg0.N) : Fin cfg0.N := ⟨t.val - 1, Nat.lt_of_le_of_lt (Nat.sub_le _ _) t.isLt⟩

/-- What a point after the first leaves in the output's buffer: the attention of the item the point before scored. -/
theorem out_at (c : Dev nD) (t : Fin cfg0.N) (h : 0 < t.val) :
    (outsAt0 m c t.val t.isLt).1 = output (logits (iblk m c 0 (pred t)) (iblk m c 1 (pred t))) (iblk m c 2 t) := by
  rcases Nat.mod_two_eq_zero_or_one t.val with h2 | h2
  · have h1 : ¬t.val % 2 = 1 := by rw [h2]; decide
    simp only [outsAt0_C m c t (pos_facts t h) h2 h1, out_even]
    exact congrArg (fun S => output S _) (scores_odd m c (pred t) (by show (t.val - 1) % 2 = 1; omega))
  · simp only [outsAt0_B m c t (odd_facts t h2).1 (odd_facts t h2).2 h2, out_odd]
    exact congrArg (fun S => output S _) (scores_even m c (pred t) (by show (t.val - 1) % 2 = 0; omega))

end Cert.KernelIdeal.Points

end
-- ==== Proof.Array.lean ====
/-
  The result array of the grouped-query attention call, as one function of its three packed arrays.
-/
module

public import proofs.«01_k».proof.Proof.Points

@[expose] public section

set_option maxRecDepth 16384

noncomputable section

namespace Cert.KernelIdeal.Array

open Cert.KernelIdeal Cert.KernelIdeal.Gen Cert.KernelIdeal.Step Cert.KernelIdeal.Heads Cert.KernelIdeal.Body
open Cert.KernelIdeal.Scratch Cert.KernelIdeal.Points Cert.Softmax
open Idealize.ShloMosaic Idealize.ShloMosaic.TcCoe
open Idealize.ShloMosaic.Pipeline (Dat)

variable (m : (ℓ : Loc nD τ sig) → Buf (Elt Ideal) ℓ)

/-- The score of query `s` of head `h`, scaled, against key `t`, over the 128 lanes of the packed arrays. -/
def logit (Q : FVec Ideal S8x1024x4096 .f32) (K : FVec Ideal S8x4096x128 .bf16) (b : Fin 8) (h : Fin 8)
    (s : Fin 4096) : ℕ → EReal := fun t =>
  if ht : t < 4096 then ∑ d : Fin 128, K (ix3 b ⟨t, ht⟩ d) * (Q (ix3 b ⟨128 * h.val + d.val, by omega⟩ s) * scale) else 0

/-- Row `r` of the packed values. -/
def row (V : FVec Ideal S8x128x4096 .bf16) (b : Fin 8) (r : Fin 128) : ℕ → EReal := fun t =>
  if ht : t < 4096 then V (ix3 b r ⟨t, ht⟩) else 0

/-- The call's result over its three packed arrays. -/
def result (Q : FVec Ideal S8x1024x4096 .f32) (K : FVec Ideal S8x4096x128 .bf16) (V : FVec Ideal S8x128x4096 .bf16) :
    FVec Ideal S8x4096x512 .bf16 := fun j =>
  have hj : (j 2).val < 512 := (j 2).isLt
  Ideal.div
    (mass (logit Q K (j 0) ⟨(j 2).val / 64, by omega⟩ (j 1))
      (row V (j 0) ⟨(j 2).val / 256 * 64 + (j 2).val % 64, by omega⟩) 4096)
    (mass (logit Q K (j 0) ⟨(j 2).val / 64, by omega⟩ (j 1)) (fun _ => 1) 4096)

/-- The array of window 0. -/
theorem array0 (c : Dev nD) : V m c (Pipeline.arrRef spec0 0) = V m c main_v7 := rfl

/-- A read of any array through the block of window 0. -/
theorem read0 (c : Dev nD) (t : Fin cfg0.N) (A : Buf (Elt Ideal) ((c : Thread nD τ).loc (Pipeline.arrRef spec0 0)))
    (y : S1x256x256.Idx) : ((cfg0.win 0).blk t).view.read (Elt Ideal) A y = A ((win0_0.blk t).view.emb y) := rfl

/-- The block of queries is the array read where the block sits. -/
theorem block0 (c : Dev nD) (t : Fin cfg0.N) (y : S1x256x256.Idx) :
    iblk m c 0 t y = V m c main_v7 ((win0_0.blk t).view.emb y) :=
  (read0 c t (V m c (Pipeline.arrRef spec0 0)) y).trans (congrFun (array0 m c) _)

/-- The array of window 1. -/
theorem array1 (c : Dev nD) : V m c (Pipeline.arrRef spec0 1) = V m c main_v9 := rfl

/-- A read of any array through the block of window 1. -/
theorem read1 (c : Dev nD) (t : Fin cfg0.N) (A : Buf (Elt Ideal) ((c : Thread nD τ).loc (Pipeline.arrRef spec0 1)))
    (y : S1x4096x128.Idx) : ((cfg0.win 1).blk t).view.read (Elt Ideal) A y = A ((win0_1.blk t).view.emb y) := rfl

/-- The block of keys is the array read where the block sits. -/
theorem block1 (c : Dev nD) (t : Fin cfg0.N) (y : S1x4096x128.Idx) :
    iblk m c 1 t y = V m c main_v9 ((win0_1.blk t).view.emb y) :=
  (read1 c t (V m c (Pipeline.arrRef spec0 1)) y).trans (congrFun (array1 m c) _)

/-- The array of window 2. -/
theorem array2 (c : Dev nD) : V m c (Pipeline.arrRef spec0 2) = V m c main_v12 := rfl

/-- A read of any array through the block of window 2. -/
theorem read2 (c : Dev nD) (t : Fin cfg0.N) (A : Buf (Elt Ideal) ((c : Thread nD τ).loc (Pipeline.arrRef spec0 2)))
    (y : S1x64x4096.Idx) : ((cfg0.win 2).blk t).view.read (Elt Ideal) A y = A ((win0_2.blk t).view.emb y) := rfl

/-- The block of values is the array read where the block sits. -/
theorem block2 (c : Dev nD) (t : Fin cfg0.N) (y : S1x64x4096.Idx) :
    iblk m c 2 t y = V m c main_v12 ((win0_2.blk t).view.emb y) :=
  (read2 c t (V m c (Pipeline.arrRef spec0 2)) y).trans (congrFun (array2 m c) _)

/-- The queries' block at an index. -/
theorem queries_at (c : Dev nD) (t : Fin cfg0.N) (h : t.val < 512) (r : Fin 256) (q : Fin 256) (b : Fin 8)
    (r' : Fin 1024) (s : Fin 4096) (hb : b.val = t.val / 64) (hr : r'.val = t.val / 16 % 4 * 256 + r.val)
    (hs : s.val = t.val % 16 * 256 + q.val) :
    (show FVec Ideal S1x256x256 .f32 from iblk m c 0 t) (ix3 0 r q)
      = (show FVec Ideal S8x1024x4096 .f32 from V m c main_v7) (ix3 b r' s) := by
  refine (block0 m c t _).trans (congrArg _ ?_)
  blk_ext [(idx_in t h).1]

/-- The keys' block at an index. -/
theorem keys_at (c : Dev nD) (t : Fin cfg0.N) (h : t.val < 512) (k : Fin 4096) (d : Fin 128) (b : Fin 8)
    (hb : b.val = t.val / 64) :
    (show FVec Ideal S1x4096x128 .bf16 from iblk m c 1 t) (ix3 0 k d)
      = (show FVec Ideal S8x4096x128 .bf16 from V m c main_v9) (ix3 b k d) := by
  refine (block1 m c t _).trans (congrArg _ ?_)
  blk_ext [(idx_in t h).2]

/-- The values' block at an index. -/
theorem values_block (c : Dev nD) (t : Fin cfg0.N) (e : Fin 64) (k : Fin 4096) (b : Fin 8) (r : Fin 128)
    (hb : b.val = (t.val - 1) / 64) (hr : r.val = (t.val - 1) / 32 % 2 * 64 + e.val) :
    (show FVec Ideal S1x64x4096 .bf16 from iblk m c 2 t) (ix3 0 e k)
      = (show FVec Ideal S8x128x4096 .bf16 from V m c main_v12) (ix3 b r k) := by
  refine (block2 m c t _).trans (congrArg _ ?_)
  blk_ext [(idx_out t).1]

/-- The point's output at an index is the call's result where the output's block sits. -/
theorem point (c : Dev nD) (t : Fin cfg0.N) (h : 0 < t.val) (q : Fin 256) (l : Fin 128) (b : Fin 8) (s : Fin 4096)
    (j : Fin 512) (hb : b.val = (t.val - 1) / 64) (hs : s.val = (t.val - 1) % 16 * 256 + q.val)
    (hj : j.val = (t.val - 1) / 16 % 4 * 128 + l.val) :
    output (logits (iblk m c 0 (pred t)) (iblk m c 1 (pred t))) (iblk m c 2 t) (ix3 0 q l)
      = result (V m c main_v7) (V m c main_v9) (V m c main_v12) (ix3 b s j) := by
  have ht : t.val < 513 := lt_of_lt_of_eq t.isLt N_0
  have hp : (pred t).val = t.val - 1 := rfl
  have e1 : score (logits (iblk m c 0 (pred t)) (iblk m c 1 (pred t))) ⟨l.val / 64, by omega⟩ q
      = logit (V m c main_v7) (V m c main_v9) b ⟨j.val / 64, by omega⟩ s := by
    funext k
    unfold score logit
    split
    · rename_i hk
      refine Finset.sum_congr rfl fun d _ => congrArg₂ (· * ·) ?_ ?_
      · exact keys_at m c (pred t) (by omega) ⟨k, hk⟩ d b (by omega)
      · refine congrArg (· * scale) ?_
        exact queries_at m c (pred t) (by omega) _ q b _ s (by omega)
          (by show 128 * (j.val / 64) + d.val = (pred t).val / 16 % 4 * 256 + (128 * (l.val / 64) + d.val); omega)
          (by omega)
    · rfl
  have e2 : value (iblk m c 2 t) ⟨l.val % 64, by omega⟩
      = row (V m c main_v12) b ⟨j.val / 256 * 64 + j.val % 64, by omega⟩ := by
    funext k
    unfold value row
    split
    · rename_i hk
      exact values_block m c t _ ⟨k, hk⟩ b _ hb
        (by show j.val / 256 * 64 + j.val % 64 = (t.val - 1) / 32 % 2 * 64 + l.val % 64; omega)
    · rfl
  rw [output_at, e1, e2]
  rfl

/-- The result array after the run. -/
theorem final (c : Dev nD) : (dats m 0 c).arrAt 3 cfg0.N
    = result (V m c main_v7) (V m c main_v9) (V m c main_v12) := by
  refine (dats m 0 c).arrAt_eq_of_covers 3 _ (by decide +kernel) fun t hf y => ?_
  blk_simp
  rw [after0_3, out_at m c t (flush_pos t hf)]
  idx_vars y
  obtain_idx j : S8x4096x512 := [(t.val - 1) / 64, (t.val - 1) % 16 * 256 + y1.val, (t.val - 1) / 16 % 4 * 128 + y2.val] with hj
  obtain rfl : y0 = 0 := Subsingleton.elim _ _
  refine (point m c t (flush_pos t hf) y1 y2 (j 0) (j 1) (j 2) hj0 hj1 hj2).trans (congrArg _ ?_)
  blk_ext [(idx_out t).2]

end Cert.KernelIdeal.Array

end
-- ==== Proof.Host.lean ====
/-
  The packed arrays the grouped-query attention call reads, element by element.
-/
module

public import proofs.«01_k».proof.Proof.Array

@[expose] public section

set_option maxRecDepth 16384

noncomputable section

namespace Cert.KernelIdeal.Host

open Cert.KernelIdeal Cert.KernelIdeal.Gen Cert.KernelIdeal.Scratch Cert.KernelIdeal.Array Cert.Softmax
open Idealize.ShloMosaic Idealize.ShloMosaic.TcCoe

variable (m : (ℓ : Loc nD τ sig) → Buf (Elt Ideal) ℓ)

/-- The queries given. -/
abbrev q (c : Dev nD) : FVec Ideal S8x4096x8x64 .f32 := m ((c.tc : Thread nD τ).loc main_arg0)

/-- The keys given. -/
abbrev k (c : Dev nD) : FVec Ideal S8x4096x2x64 .f32 := m ((c.tc : Thread nD τ).loc main_arg1)

/-- The values given. -/
abbrev v (c : Dev nD) : FVec Ideal S8x4096x2x64 .f32 := m ((c.tc : Thread nD τ).loc main_arg2)

/-- The packed queries: head `h` has its own lanes in the half of its key head, and zeros in the other half. -/
theorem queries (c : Dev nD) (b : Fin 8) (h : Fin 8) (d : Fin 128) (s : Fin 4096) :
    (show FVec Ideal S8x1024x4096 .f32 from V m c main_v7) (ix3 b ⟨128 * h.val + d.val, by omega⟩ s)
      = if d.val / 64 = h.val / 4 then q m c (ix4 b s h ⟨d.val % 64, by omega⟩) else 0 := by
  entry_read
  pointwise
  have hh := h.isLt
  have hd := d.isLt
  by_cases h4 : h.val < 4 <;> by_cases d64 : d.val < 64
  · rw [dif_pos h4, dif_pos d64]
    refine Eq.trans ?_ (if_pos (by omega)).symm
    blk_point []
  · rw [dif_pos h4, dif_neg d64]
    exact (if_neg (by omega)).symm
  · rw [dif_neg h4, dif_pos d64]
    exact (if_neg (by omega)).symm
  · rw [dif_neg h4, dif_neg d64]
    refine Eq.trans ?_ (if_pos (by omega)).symm
    blk_point []

/-- The packed keys: the two key heads side by side. -/
theorem keys (c : Dev nD) (b : Fin 8) (t : Fin 4096) (d : Fin 128) :
    (show FVec Ideal S8x4096x128 .bf16 from V m c main_v9) (ix3 b t d)
      = k m c (ix4 b t ⟨d.val / 64, by omega⟩ ⟨d.val % 64, by omega⟩) := by
  entry_read
  pointwise

/-- The packed values, transposed: the two value heads one above the other. -/
theorem values (c : Dev nD) (b : Fin 8) (t : Fin 4096) (d : Fin 128) :
    (show FVec Ideal S8x128x4096 .bf16 from V m c main_v12) (ix3 b d t)
      = v m c (ix4 b t ⟨d.val / 64, by omega⟩ ⟨d.val % 64, by omega⟩) := by
  entry_read
  pointwise

end Cert.KernelIdeal.Host

end
-- ==== Proof.Rows.lean ====
/-
  The greatest entry of each row of an array, whatever the array's extents.
-/
module

public import proofs.«01_k».proof.Proof.Softmax
public import Idealize.ShloMosaic.Lib.Pipeline.ValueKit

@[expose] public section

noncomputable section

namespace Cert.Softmax

open Idealize.ShloMosaic

/-- The maximum along the last of five axes. -/
theorem rowMax_five {a b c d n : Nat} {u : Shape} (x : FVec Ideal (⟨5, ![a, b, c, d, n]⟩ : Shape) .f32) (i : u.Idx → Ideal .f32)
    (h : (⟨5, ![a, b, c, d, n]⟩ : Shape).ReducesTo [4] ⟨4, ![a, b, c, d]⟩) (hu : 0 < u.numel)
    (j0 : Fin a) (j1 : Fin b) (j2 : Fin c) (j3 : Fin d) :
    Host.reduce FloatOps.maximumf x i h hu (ix4 j0 j1 j2 j3)
      = (Finset.univ : Finset (Fin n)).fold max (i (Shape.Idx.first hu)) fun k => x (ix5 j0 j1 j2 j3 k) := by
  pointwise

/-- The maximum along the last of four axes. -/
theorem rowMax_four {a b c n : Nat} {u : Shape} (x : FVec Ideal (⟨4, ![a, b, c, n]⟩ : Shape) .f32) (i : u.Idx → Ideal .f32)
    (h : (⟨4, ![a, b, c, n]⟩ : Shape).ReducesTo [3] ⟨3, ![a, b, c]⟩) (hu : 0 < u.numel)
    (j0 : Fin a) (j1 : Fin b) (j2 : Fin c) :
    Host.reduce FloatOps.maximumf x i h hu (ix3 j0 j1 j2)
      = (Finset.univ : Finset (Fin n)).fold max (i (Shape.Idx.first hu)) fun k => x (ix4 j0 j1 j2 k) := by
  pointwise

/-- The pattern of minus infinity. -/
theorem bits_neg_inf : Ideal.ofBits .f32 0xFF800000#32 = (⊥ : EReal) := by simp [Ideal.ofBits, Ideal.ieee]

/-- A row's maximum from minus infinity is the greatest of its scores. -/
theorem fold_top (f : ℕ → EReal) (n : ℕ) :
    (Finset.univ : Finset (Fin n)).fold max ⊥ (fun k => f k.val) = top f n := by
  have h := top_add f 0 n
  rw [top_zero, Nat.zero_add, max_eq_right bot_le] at h
  simpa using h.symm

end Cert.Softmax

end
-- ==== Proof.Reference.lean ====
/-
  What the plain grouped-query attention computes, element by element.
-/
module

public import proofs.«01_k».proof.Proof.Gen.ReferenceIdeal.Run
public import proofs.«01_k».proof.Proof.Rows

@[expose] public section

set_option maxRecDepth 16384

noncomputable section

namespace Cert.ReferenceIdeal.Attention

open Cert.ReferenceIdeal Cert.ReferenceIdeal.Gen Cert.Softmax
open Idealize.ShloMosaic Idealize.ShloMosaic.TcCoe Idealize.SL.Sem

/-- The score of query `s` of head `h` against key `t`: a dot product over the 64 lanes, scaled by one eighth. -/
def logit (q : FVec Ideal S8x4096x8x64 .f32) (k : FVec Ideal S8x4096x2x64 .f32) (b : Fin 8) (h : Fin 8) (s : Fin 4096) :
    ℕ → EReal := fun t =>
  if ht : t < 4096 then
    ∑ d : Fin 64, k (ix4 b ⟨t, ht⟩ ⟨h.val / 4, by omega⟩ d) * (q (ix4 b s h d) * Ideal.ofBits .f32 0x3E000000#32)
  else 0

/-- Lane `e` of the values of key head `g`, as a function of the key. -/
def value (v : FVec Ideal S8x4096x2x64 .f32) (b : Fin 8) (g : Fin 2) (e : Fin 64) : ℕ → EReal := fun t =>
  if ht : t < 4096 then v (ix4 b ⟨t, ht⟩ g e) else 0

/-- Softmax attention: the average of the values under the weights the scores give. -/
def attention (q : FVec Ideal S8x4096x8x64 .f32) (k v : FVec Ideal S8x4096x2x64 .f32) :
    FVec Ideal S8x4096x512 .bf16 := fun j =>
  have hj : (j 2).val < 512 := (j 2).isLt
  average (logit q k (j 0) ⟨(j 2).val / 64, by omega⟩ (j 1))
    (value v (j 0) ⟨(j 2).val / 256, by omega⟩ ⟨(j 2).val % 64, by omega⟩) 4096

/-- The scores as the program forms them. -/
def scores (q : FVec Ideal S8x4096x8x64 .f32) (k : FVec Ideal S8x4096x2x64 .f32) : FVec Ideal S8x2x4x4096x4096 .f32 :=
  transpose S8x2x4x4096x4096 [0, 1, 4, 3, 2]
    (Host.dotGeneral dot_S8x4096x2x64_S8x4096x2x4x64_S8x2x4096x4096x4_3_4_1_13_02_02 none k
      (shapeCast S8x4096x2x4x64
        (mulf q (broadcastInDim S8x4096x8x64 ![] bcast_S_S8x4096x8x64 (constant S_ .f32 0x3E000000#32)))
        shapeCasts_S8x4096x8x64_S8x4096x2x4x64))
    transposes_S8x2x4096x4096x4_S8x2x4x4096x4096_0_1_4_3_2

/-- The greatest score of each row. -/
def peaks (x : FVec Ideal S8x2x4x4096x4096 .f32) : FVec Ideal S8x2x4x4096 .f32 :=
  Host.reduce FloatOps.maximumf x (constant S_ .f32 0xFF800000#32) reducesTo_S8x2x4x4096x4096_S8x2x4x4096_d4 h_S_

/-- Each score less the number given for its row, exponentiated. -/
def exps (x : FVec Ideal S8x2x4x4096x4096 .f32) (y : FVec Ideal S8x2x4x4096 .f32) : FVec Ideal S8x2x4x4096x4096 .f32 :=
  Host.exp (subf x (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3
      (maximumf (broadcastInDim S8x2x4x4096 ![] bcast_S_S8x2x4x4096 (constant S_ .f32 0xFF800000#32)) y))))

/-- Each row divided by its sum. -/
def weights (x : FVec Ideal S8x2x4x4096x4096 .f32) : FVec Ideal S8x2x4x4096x4096 .f32 :=
  Host.divf x (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3
      (Host.reduceAdd x (constant S_ .f32 0x00000000#32) reducesTo_S8x2x4x4096x4096_S8x2x4x4096_d4 h_S_)))

/-- The weighted values, heads side by side. -/
def mixed (p : FVec Ideal S8x2x4x4096x4096 .f32) (v : FVec Ideal S8x4096x2x64 .f32) : FVec Ideal S8x4096x512 .bf16 :=
  truncf .bf16 (shapeCast S8x4096x512 (transpose S8x4096x2x4x64 [0, 4, 1, 3, 2]
    (Host.dotGeneral dot_S8x4096x2x64_S8x2x4x4096x4096_S8x2x64x4x4096_1_4_3_23_02_01 none v p)
    transposes_S8x2x64x4x4096_S8x4096x2x4x64_0_4_1_3_2) shapeCasts_S8x4096x2x4x64_S8x4096x512) bitsLt_bf16_f32

/-- An element of the scores. -/
theorem scores_at (q : FVec Ideal S8x4096x8x64 .f32) (k : FVec Ideal S8x4096x2x64 .f32) (b : Fin 8) (g : Fin 2) (n : Fin 4)
    (s t : Fin 4096) (h : Fin 8) (hh : h.val = 4 * g.val + n.val) :
    scores q k (ix5 b g n s t) = logit q k b h s t.val := by
  have e1 : h = (⟨g.val * 4 + n.val, by omega⟩ : Fin 8) := Fin.ext (by show h.val = g.val * 4 + n.val; omega)
  have e2 : (⟨h.val / 4, by omega⟩ : Fin 2) = g := Fin.ext (by show h.val / 4 = g.val; omega)
  unfold logit
  rw [dif_pos t.isLt, e2, e1]
  pointwise [scores]

/-- An element of the rows' greatest scores. -/
theorem peaks_at (x : FVec Ideal S8x2x4x4096x4096 .f32) (b : Fin 8) (g : Fin 2) (n : Fin 4) (s : Fin 4096) :
    peaks x (ix4 b g n s) = (Finset.univ : Finset (Fin 4096)).fold max ⊥ fun t => x (ix5 b g n s t) :=
  (rowMax_five x _ _ _ b g n s).trans (congrArg (fun i => (Finset.univ : Finset (Fin 4096)).fold max i _) bits_neg_inf)

/-- An element of the exponentials. -/
theorem exps_at (x : FVec Ideal S8x2x4x4096x4096 .f32) (y : FVec Ideal S8x2x4x4096 .f32) (b : Fin 8) (g : Fin 2)
    (n : Fin 4) (s t : Fin 4096) : exps x y (ix5 b g n s t) = Ideal.exp (x (ix5 b g n s t) - y (ix4 b g n s)) := by
  pointwise [exps]
  rw [bits_neg_inf, max_eq_right bot_le]

/-- An element of the weights. -/
theorem weights_at (x : FVec Ideal S8x2x4x4096x4096 .f32) (b : Fin 8) (g : Fin 2) (n : Fin 4) (s t : Fin 4096) :
    weights x (ix5 b g n s t) = Ideal.div (x (ix5 b g n s t)) (∑ r : Fin 4096, x (ix5 b g n s r)) := by
  pointwise [weights]

/-- An element of the weighted values. -/
theorem mixed_at (p : FVec Ideal S8x2x4x4096x4096 .f32) (v : FVec Ideal S8x4096x2x64 .f32) (b : Fin 8) (s : Fin 4096)
    (j : Fin 512) :
    mixed p v (ix3 b s j)
      = ∑ t : Fin 4096, v (ix4 b t ⟨j.val / 256, by omega⟩ ⟨j.val % 64, by omega⟩)
          * p (ix5 b ⟨j.val / 256, by omega⟩ ⟨j.val / 64 % 4, by omega⟩ s t) := by
  pointwise [mixed]

/-- The program's composed operations are the softmax attention. -/
theorem composed (q : FVec Ideal S8x4096x8x64 .f32) (k v : FVec Ideal S8x4096x2x64 .f32) :
    mixed (weights (exps (scores q k) (peaks (scores q k)))) v = attention q k v := by
  funext j
  idx_vars j
  have e : ∀ r : Fin 4096, scores q k (ix5 j0 ⟨j2.val / 256, by omega⟩ ⟨j2.val / 64 % 4, by omega⟩ j1 r)
      = logit q k j0 ⟨j2.val / 64, by omega⟩ j1 r.val := fun r =>
    scores_at q k j0 _ _ j1 r _ (by show j2.val / 64 = 4 * (j2.val / 256) + j2.val / 64 % 4; omega)
  rw [mixed_at]
  show _ = average (logit q k j0 ⟨j2.val / 64, by omega⟩ j1)
    (value v j0 ⟨j2.val / 256, by omega⟩ ⟨j2.val % 64, by omega⟩) 4096
  unfold average
  rw [Finset.sum_range]
  refine Finset.sum_congr rfl fun t _ => congrArg₂ (· * ·) ?_ ?_
  · unfold value
    rw [dif_pos t.isLt]
  · rw [weights_at, exps_at, peaks_at, Finset.sum_range]
    simp only [exps_at, peaks_at, e, fold_top]

/-- The plain attention runs, leaves its arguments, and its result is the softmax attention. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = attention (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  generalize m ((c.tc : Thread nD τ).loc main_arg0) = q
  generalize m ((c.tc : Thread nD τ).loc main_arg1) = k
  generalize m ((c.tc : Thread nD τ).loc main_arg2) = v
  exact composed q k v

end Cert.ReferenceIdeal.Attention

end
-- ==== Proof.Dots.lean ====
/-
  Scaled dot products of finite numbers.
-/
module

public import proofs.«01_k».proof.Proof.Softmax

@[expose] public section

noncomputable section

namespace Cert.Softmax

open Idealize.ShloMosaic

/-- A sum of finite numbers is the sum of the real numbers they are. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A dot product scaled by `r` is a real number, and scaled by `r` over the logarithm of two it is that number over the
    logarithm of two. -/
theorem scaled_dot {n : ℕ} (a b : Fin n → EReal) (ha : ∀ i, ∃ x : ℝ, a i = x) (hb : ∀ i, ∃ x : ℝ, b i = x) (r : ℝ) :
    ∃ x : ℝ, ∑ i, a i * (b i * (r : EReal)) = x
      ∧ ∑ i, a i * (b i * ((r * (Real.log 2)⁻¹ : ℝ) : EReal)) = (((Real.log 2)⁻¹ * x : ℝ) : EReal) := by
  choose x hx using ha
  choose y hy using hb
  refine ⟨∑ i, x i * (y i * r), ?_, ?_⟩
  · rw [← coe_sum]
    exact Finset.sum_congr rfl fun i _ => by rw [hx, hy, EReal.coe_mul, EReal.coe_mul]
  · rw [Finset.mul_sum, ← coe_sum]
    refine Finset.sum_congr rfl fun i _ => ?_
    rw [hx, hy, ← EReal.coe_mul, ← EReal.coe_mul]
    exact congrArg _ (by ring)

/-- Of 128 lanes in two halves, only the half that holds something counts. -/
theorem sum_half (f : Fin 2 → Fin 64 → EReal) (g : Fin 2) (hf : ∀ g', g' ≠ g → ∀ e, f g' e = 0) :
    ∑ d : Fin 128, f ⟨d.val / 64, by omega⟩ ⟨d.val % 64, by omega⟩ = ∑ e : Fin 64, f g e := by
  have h := Fin.sum_univ_add (a := 64) (b := 64)
    (fun d : Fin 128 => f ⟨d.val / 64, by omega⟩ ⟨d.val % 64, by omega⟩)
  have e0 : ∀ e : Fin 64, f ⟨(Fin.castAdd 64 e).val / 64, by have := e.isLt; simp; omega⟩
      ⟨(Fin.castAdd 64 e).val % 64, Nat.mod_lt _ (by omega)⟩ = f 0 e := fun e => by
    congr 1
    · exact Fin.ext (by have := e.isLt; show e.val / 64 = 0; omega)
    · exact Fin.ext (by have := e.isLt; show e.val % 64 = e.val; omega)
  have e1 : ∀ e : Fin 64, f ⟨(Fin.natAdd 64 e).val / 64, by have := e.isLt; simp⟩
      ⟨(Fin.natAdd 64 e).val % 64, Nat.mod_lt _ (by omega)⟩ = f 1 e := fun e => by
    congr 1
    · exact Fin.ext (by have := e.isLt; show (64 + e.val) / 64 = 1; omega)
    · exact Fin.ext (by have := e.isLt; show (64 + e.val) % 64 = e.val; omega)
  refine h.trans ?_
  rw [Finset.sum_congr rfl fun e _ => e0 e, Finset.sum_congr rfl fun e _ => e1 e]
  match g with
  | 0 => rw [Finset.sum_eq_zero fun e _ => hf 1 (by decide) e, add_zero]
  | 1 => rw [Finset.sum_eq_zero fun e _ => hf 0 (by decide) e, zero_add]

/-- Of 128 lanes, only the first 96 hold something. -/
theorem sum_padded (f : Fin 128 → EReal) (hf : ∀ d : Fin 128, 96 ≤ d.val → f d = 0) :
    ∑ d : Fin 128, f d = ∑ e : Fin 96, f ⟨e.val, by omega⟩ := by
  refine (Fin.sum_univ_add (a := 96) (b := 32) f).trans ?_
  rw [Finset.sum_eq_zero (s := Finset.univ) (f := fun i : Fin 32 => f (Fin.natAdd 96 i))
    fun i _ => hf _ (by show 96 ≤ 96 + i.val; omega), add_zero]
  rfl

end Cert.Softmax

end
-- ==== Proof.Gqa.lean ====
/-
  The grouped-query attention call computes what the plain grouped-query attention computes.
-/
module

public import proofs.«01_k».proof.Proof.Array
public import proofs.«01_k».proof.Proof.Host
public import proofs.«01_k».proof.Proof.Reference
public import proofs.«01_k».proof.Proof.Dots

@[expose] public section

set_option maxRecDepth 16384

noncomputable section

namespace Cert.KernelIdeal.Gqa

open Cert.KernelIdeal Cert.KernelIdeal.Gen Cert.Softmax Cert.KernelIdeal.Host Cert.KernelIdeal.Scratch
open Idealize.ShloMosaic Idealize.ShloMosaic.TcCoe Idealize.SL.Sem

variable (m : (ℓ : Loc nD τ sig) → Buf (Elt Ideal) ℓ)

/-- The plain attention's scale is one eighth. -/
theorem eighth : Ideal.ofBits .f32 0x3E000000#32 = (((1 : ℝ) / 8 : ℝ) : EReal) := by
  simp [Ideal.ofBits, Ideal.ieee, -EReal.coe_mul]; norm_num

/-- The call's score of a query and a key is a dot product over the 64 lanes of the query's key head. -/
theorem packed (c : Dev nD) (b h : Fin 8) (s t : Fin 4096) :
    Array.logit (V m c main_v7) (V m c main_v9) b h s t.val
      = ∑ e : Fin 64, k m c (ix4 b t ⟨h.val / 4, by omega⟩ e) * (q m c (ix4 b s h e) * scale) := by
  unfold Array.logit
  rw [dif_pos t.isLt]
  refine Eq.trans (Finset.sum_congr rfl fun d _ => ?_) (sum_half
    (fun g e => k m c (ix4 b t g e) * ((if g.val = h.val / 4 then q m c (ix4 b s h e) else 0) * scale))
    ⟨h.val / 4, by omega⟩ fun g' hg e => ?_) |>.trans (Finset.sum_congr rfl fun e _ => ?_)
  · exact congrArg₂ (· * ·) (keys m c b t d) (congrArg (· * scale) (queries m c b h d s))
  · show _ * ((if g'.val = h.val / 4 then q m c (ix4 b s h e) else 0) * scale) = 0
    rw [if_neg fun e => hg (Fin.ext e), zero_mul, mul_zero]
  · show _ * ((if h.val / 4 = h.val / 4 then q m c (ix4 b s h e) else 0) * scale) = _
    rw [if_pos rfl]

/-- A row of the packed values is a lane of the values of one key head. -/
theorem lane (c : Dev nD) (b : Fin 8) (g : Fin 2) (e : Fin 64) (r : Fin 128) (hr : r.val = g.val * 64 + e.val) :
    Array.row (V m c main_v12) b r = ReferenceIdeal.Attention.value (v m c) b g e := by
  funext t
  have e1 : (⟨r.val / 64, by omega⟩ : Fin 2) = g := Fin.ext (by show r.val / 64 = g.val; omega)
  have e2 : (⟨r.val % 64, by omega⟩ : Fin 64) = e := Fin.ext (by show r.val % 64 = e.val; omega)
  unfold Array.row ReferenceIdeal.Attention.value
  by_cases ht : t < 4096
  · rw [dif_pos ht, dif_pos ht]
    refine (values m c b ⟨t, ht⟩ r).trans ?_
    rw [e1, e2]
  · rw [dif_neg ht, dif_neg ht]

/-- For finite queries and keys the call's scores are the plain attention's, over the logarithm of two. -/
theorem scores (c : Dev nD) (hq : ∀ i, ∃ r : ℝ, (q m c i : EReal) = r) (hk : ∀ i, ∃ r : ℝ, (k m c i : EReal) = r)
    (b h : Fin 8) (s : Fin 4096) (t : ℕ) : ∃ x : ℝ,
    ReferenceIdeal.Attention.logit (q m c) (k m c) b h s t = x
      ∧ Array.logit (V m c main_v7) (V m c main_v9) b h s t = (((Real.log 2)⁻¹ * x : ℝ) : EReal) := by
  by_cases ht : t < 4096
  · obtain ⟨x, h1, h2⟩ := scaled_dot (fun e : Fin 64 => (k m c (ix4 b ⟨t, ht⟩ ⟨h.val / 4, by omega⟩ e) : EReal))
      (fun e => (q m c (ix4 b s h e) : EReal)) (fun e => hk _) (fun e => hq _) (1 / 8)
    refine ⟨x, ?_, (packed m c b h s ⟨t, ht⟩).trans h2⟩
    unfold ReferenceIdeal.Attention.logit
    rw [dif_pos ht, eighth]
    exact h1
  · refine ⟨0, ?_, ?_⟩
    · unfold ReferenceIdeal.Attention.logit
      rw [dif_neg ht]; rfl
    · unfold Array.logit
      rw [dif_neg ht, mul_zero]; rfl

/-- For finite queries and keys the call's result is the plain attention's. -/
theorem result_eq (c : Dev nD) (hq : ∀ i, ∃ r : ℝ, (q m c i : EReal) = r) (hk : ∀ i, ∃ r : ℝ, (k m c i : EReal) = r) :
    Array.result (V m c main_v7) (V m c main_v9) (V m c main_v12)
      = ReferenceIdeal.Attention.attention (q m c) (k m c) (v m c) := by
  funext j
  have hj : (j 2).val < 512 := (j 2).isLt
  choose x hx hy using fun t => scores m c hq hk (j 0) ⟨(j 2).val / 64, by omega⟩ (j 1) t
  unfold Array.result ReferenceIdeal.Attention.attention
  dsimp only
  rw [lane m c (j 0) ⟨(j 2).val / 256, by omega⟩ ⟨(j 2).val % 64, by omega⟩ _ rfl,
    weighted_eq x _ (by norm_num) _ hy, ← funext hx]

end Cert.KernelIdeal.Gqa

end
-- ==== Proof.MlaBody.lean ====
/-
  What one grid point of the latent attention call computes: the scores it leaves for the next point, and the
  output it takes from the scores the point before left.
-/
module

public import proofs.«01_k».proof.Proof.Gen.MlaIdeal.Value
public import proofs.«01_k».proof.Proof.Heads

@[expose] public section

set_option maxRecDepth 16384

noncomputable section

namespace Cert.MlaIdeal.Body

open Cert.MlaIdeal Cert.MlaIdeal.Gen Cert.KernelIdeal.Step Cert.KernelIdeal.Heads Cert.Softmax
open Idealize.ShloMosaic Idealize.ShloMosaic.TcCoe

/-- One row of the transposed values, as a function of the key. -/
def value (V : Vec Ideal S1x128x4096 .bf16) (r : Fin 128) : ℕ → EReal := fun t =>
  if ht : t < 4096 then V (ix3 0 r ⟨t, ht⟩) else 0

/-- One head's transposed values, by chunk of 512 keys. -/
def values (V : Vec Ideal S1x128x4096 .bf16) (h : Fin 2) : Fin 8 → Vec Ideal S1x64x512 .bf16 := fun k =>
  View.ld V (Rect.unit ![0, 64 * h.val, 512 * k.val] ![1, 64, 512] (by
    intro a
    match a with
    | 0 => exact le_refl _
    | 1 => show 64 * h.val + 64 ≤ 128; omega
    | 2 => show 512 * k.val + 512 ≤ 4096; omega))

/-- A chunk's values are the values of its keys. -/
theorem values_at (V : Vec Ideal S1x128x4096 .bf16) (h : Fin 2) (k : Fin 8) (e : Fin 64) (i : Fin 512) :
    values V h k (ix3 0 e i) = value V ⟨64 * h.val + e.val, by omega⟩ (512 * k.val + i.val) := by
  unfold value
  rw [dif_pos (by omega)]
  pointwise [values]

/-- The point's output over scores `S` and values `V`. -/
def output (S : Vec Ideal S2x4096x256 .f32) (V : Vec Ideal S1x128x4096 .bf16) : FVec Ideal S1x256x128 .bf16 :=
  finish (chunks (scores S 0) (values V 0)).2 (chunks (scores S 1) (values V 1)).2

/-- The output at query lane `q` and column `l`: head `l / 64` of the pair, value row `l`. -/
theorem output_at (S : Vec Ideal S2x4096x256 .f32) (V : Vec Ideal S1x128x4096 .bf16) (q : Fin 256) (l : Fin 128) :
    output S V (ix3 0 q l)
      = Ideal.div (mass (score S ⟨l.val / 64, by omega⟩ q) (value V l) 4096)
          (mass (score S ⟨l.val / 64, by omega⟩ q) (fun _ => 1) 4096) := by
  unfold output
  rw [finish_inv (chunks_inv (score S 0) (fun e : Fin 64 => value V ⟨64 * (0 : Fin 2).val + e.val, by omega⟩) _ _
      (scores_at S 0) (values_at V 0))
    (chunks_inv (score S 1) (fun e : Fin 64 => value V ⟨64 * (1 : Fin 2).val + e.val, by omega⟩) _ _
      (scores_at S 1) (values_at V 1))]
  split
  · rename_i h
    have e0 : (⟨l.val / 64, by omega⟩ : Fin 2) = 0 := Fin.ext (by show l.val / 64 = 0; omega)
    have e1 : (⟨64 * (0 : Fin 2).val + l.val, by show 64 * 0 + l.val < 128; omega⟩ : Fin 128) = l :=
      Fin.ext (by show 64 * 0 + l.val = l.val; omega)
    rw [e0, e1]
  · rename_i h
    have e0 : (⟨l.val / 64, by omega⟩ : Fin 2) = 1 := Fin.ext (by show l.val / 64 = 1; omega)
    have e1 : (⟨64 * (1 : Fin 2).val + (l.val - 64), by show 64 * 1 + (l.val - 64) < 128; omega⟩ : Fin 128) = l :=
      Fin.ext (by show 64 * 1 + (l.val - 64) = l.val; omega)
    rw [e0, e1]

variable (c : Dev nD) (i : grid0.Coords) (arg1 : Memref sig .tc .vmem S1x256x256 .f32) (harg1 : arg1.IsWhole)
  (arg2 : Memref sig .tc .vmem S1x4096x256 .bf16) (harg2 : arg2.IsWhole)
  (arg3 : Memref sig .tc .vmem S1x128x4096 .bf16) (harg3 : arg3.IsWhole)
  (arg4 : Memref sig .tc .vmem S1x256x128 .bf16) (harg4 : arg4.IsWhole)
  (arg5 : Memref sig .tc .vmem S2x4096x256 .f32) (harg5 : arg5.IsWhole)
  (arg6 : Memref sig .tc .vmem S2x4096x256 .f32) (harg6 : arg6.IsWhole)
  (x0 : Vec Ideal S1x256x256 .f32) (x1 : Vec Ideal S1x4096x256 .bf16) (x2 : Vec Ideal S1x128x4096 .bf16)
  (xs : Vec Ideal S2x4096x256 .f32)

/-- The output of an odd point. -/
theorem out_odd (hc0 : ¬cond0_0 i) (hc1 : ¬cond0_1 i) (hc2 : cond0_2 i) :
    out0_B_3 c i arg1 harg1 arg2 harg2 arg3 harg3 arg4 harg4 arg5 harg5 arg6 harg6 hc0 hc1 hc2 x0 x1 x2 xs
      = output xs x2 := by
  frame_out
  rfl

/-- The output of an even point after the first. -/
theorem out_even (hc0 : ¬cond0_0 i) (hc1 : cond0_1 i) (hc2 : ¬cond0_2 i) :
    out0_C_3 c i arg1 harg1 arg2 harg2 arg3 harg3 arg4 harg4 arg5 harg5 arg6 harg6 hc0 hc1 hc2 x0 x1 x2 xs
      = output xs x2 := by
  frame_out
  rfl

end Cert.MlaIdeal.Body

end
-- ==== Proof.MlaScratch.lean ====
/-
  The scores one grid point of the latent attention call leaves for the next point.
-/
module

public import proofs.«01_k».proof.Proof.MlaBody

@[expose] public section

set_option maxRecDepth 16384

noncomputable section

namespace Cert.MlaIdeal.Scratch

open Cert.MlaIdeal Cert.MlaIdeal.Gen
open Idealize.ShloMosaic Idealize.ShloMosaic.TcCoe

/-- The scale of the queries: one over the root of a head's 96 lanes as single precision rounds it, in units of `log 2`. -/
def scale : EReal := ((3424635 / 33554432 * (Real.log 2)⁻¹ : ℝ) : EReal)

/-- What the constant named in the program denotes. -/
theorem named_scale : (Named.named κ "qscale_mla" 0x3E16C740#32 : Ideal .f32) = scale := rfl

/-- The scores of a point: every key row of each head of the pair against the head's scaled query column, over the 128
    lanes. -/
def logits (x0 : Vec Ideal S1x256x256 .f32) (x1 : Vec Ideal S1x4096x256 .bf16) : Vec Ideal S2x4096x256 .f32 := fun y =>
  have h : (y 0).val < 2 := (y 0).isLt
  ∑ d : Fin 128, x1 (ix3 0 (y 1) ⟨128 * (y 0).val + d.val, by omega⟩)
    * (x0 (ix3 0 ⟨128 * (y 0).val + d.val, by omega⟩ (y 2)) * scale)

variable (c : Dev nD) (i : grid0.Coords) (arg1 : Memref sig .tc .vmem S1x256x256 .f32) (harg1 : arg1.IsWhole)
  (arg2 : Memref sig .tc .vmem S1x4096x256 .bf16) (harg2 : arg2.IsWhole)
  (arg3 : Memref sig .tc .vmem S1x128x4096 .bf16) (harg3 : arg3.IsWhole)
  (arg4 : Memref sig .tc .vmem S1x256x128 .bf16) (harg4 : arg4.IsWhole)
  (arg5 : Memref sig .tc .vmem S2x4096x256 .f32) (harg5 : arg5.IsWhole)
  (arg6 : Memref sig .tc .vmem S2x4096x256 .f32) (harg6 : arg6.IsWhole)
  (x0 : Vec Ideal S1x256x256 .f32) (x1 : Vec Ideal S1x4096x256 .bf16) (x2 : Vec Ideal S1x128x4096 .bf16)
  (xs : Vec Ideal S2x4096x256 .f32)

/-- The scores an odd point leaves. -/
theorem scratch_odd (hc0 : ¬cond0_0 i) (hc1 : ¬cond0_1 i) (hc2 : cond0_2 i) :
    sout0_B_1 c i arg1 harg1 arg2 harg2 arg3 harg3 arg4 harg4 arg5 harg5 arg6 harg6 hc0 hc1 hc2 x0 x1 x2 xs
      = logits x0 x1 := by
  frame_out
  funext y
  canon_tiles x h
  all_goals (open_payloads; pointwise [logits, named_scale]; blk_point [])

/-- The scores an even point after the first leaves. -/
theorem scratch_even (hc0 : ¬cond0_0 i) (hc1 : cond0_1 i) (hc2 : ¬cond0_2 i) :
    sout0_C_0 c i arg1 harg1 arg2 harg2 arg3 harg3 arg4 harg4 arg5 harg5 arg6 harg6 hc0 hc1 hc2 x0 x1 x2 xs
      = logits x0 x1 := by
  frame_out
  funext y
  canon_tiles x h
  all_goals (open_payloads; pointwise [logits, named_scale]; blk_point [])

/-- The scores the first point leaves. -/
theorem scratch_first (hc0 : cond0_0 i) (hc1 : cond0_1 i) (hc2 : ¬cond0_2 i) :
    sout0_A_0 c i arg1 harg1 arg2 harg2 arg3 harg3 arg4 harg4 arg5 harg5 arg6 harg6 hc0 hc1 hc2 x0 x1 x2
      = logits x0 x1 := by
  frame_out
  funext y
  canon_tiles x h
  all_goals (open_payloads; pointwise [logits, named_scale]; blk_point [])

end Cert.MlaIdeal.Scratch

end
-- ==== Proof.MlaPoints.lean ====
/-
  The latent attention call point by point: point `t` scores item `t` and finishes item `t - 1`; an item is a
  batch entry, a pair of heads and a block of 256 queries.
-/
module

public import proofs.«01_k».proof.Proof.MlaScratch

@[expose] public section

set_option maxRecDepth 16384

noncomputable section

namespace Cert.MlaIdeal.Points

open Cert.MlaIdeal Cert.MlaIdeal.Gen Cert.KernelIdeal.Step Cert.KernelIdeal.Heads Cert.MlaIdeal.Body
open Cert.MlaIdeal.Scratch Cert.Softmax
open Idealize.ShloMosaic Idealize.ShloMosaic.TcCoe
open Idealize.ShloMosaic.Pipeline (Dat)

variable (m : (ℓ : Loc nD τ sig) → Buf (Elt Ideal) ℓ)

/-- Where the blocks of queries and keys sit: item `t`, the last one again at the closing point. -/
theorem idx_in : ∀ t : Fin cfg0.N, t.val < 512 →
    win0_0.index t = ![t.val / 64, t.val / 16 % 4, t.val % 16] ∧ win0_1.index t = ![t.val / 64, 0, t.val / 16 % 4] :=
  (by decide +kernel : ∀ t : Fin grid0.N, t.val < 512 →
    win0_0.index t = ![t.val / 64, t.val / 16 % 4, t.val % 16] ∧ win0_1.index t = ![t.val / 64, 0, t.val / 16 % 4])

/-- Where the blocks of values and of the output sit: item `t - 1`. -/
theorem idx_out : ∀ t : Fin cfg0.N,
    win0_2.index t = ![(t.val - 1) / 64, (t.val - 1) / 16 % 4, 0]
    ∧ win0_3.index t = ![(t.val - 1) / 64, (t.val - 1) % 16, (t.val - 1) / 16 % 4] :=
  (by decide +kernel : ∀ t : Fin grid0.N,
    win0_2.index t = ![(t.val - 1) / 64, (t.val - 1) / 16 % 4, 0]
    ∧ win0_3.index t = ![(t.val - 1) / 64, (t.val - 1) % 16, (t.val - 1) / 16 % 4])

/-- The first point writes nothing back. -/
theorem flush_pos : ∀ t : Fin cfg0.N, (cfg0.win 3).flush t = true → 0 < t.val :=
  (by decide +kernel : ∀ t : Fin grid0.N, (cfg0.win 3).flush t = true → 0 < t.val)

/-- An even point leaves its item's scores in the first scratch. -/
theorem scores_even (c : Dev nD) (t : Fin cfg0.N) (h : t.val % 2 = 0) :
    (outsAt0 m c t.val t.isLt).2.1 = logits (iblk m c 0 t) (iblk m c 1 t) := by
  have h2 : ¬t.val % 2 = 1 := by rw [h]; decide
  by_cases h0 : t.val % 513 = 0
  · simp only [outsAt0_A m c t h0 h h2, scratch_first]
  · simp only [outsAt0_C m c t h0 h h2, scratch_even]

/-- The first point is even. -/
theorem odd_facts : ∀ t : Fin cfg0.N, t.val % 2 = 1 → ¬t.val % 513 = 0 ∧ ¬t.val % 2 = 0 :=
  (by decide +kernel : ∀ t : Fin grid0.N, t.val % 2 = 1 → ¬t.val % 513 = 0 ∧ ¬t.val % 2 = 0)

/-- Later points are not the first. -/
theorem pos_facts : ∀ t : Fin cfg0.N, 0 < t.val → ¬t.val % 513 = 0 :=
  (by decide +kernel : ∀ t : Fin grid0.N, 0 < t.val → ¬t.val % 513 = 0)

/-- An odd point leaves its item's scores in the second scratch. -/
theorem scores_odd (c : Dev nD) (t : Fin cfg0.N) (h : t.val % 2 = 1) :
    (outsAt0 m c t.val t.isLt).2.2 = logits (iblk m c 0 t) (iblk m c 1 t) := by
  simp only [outsAt0_B m c t (odd_facts t h).1 (odd_facts t h).2 h, scratch_odd]

/-- The point before. -/
def pred (t : Fin cfg0.N) : Fin cfg0.N := ⟨t.val - 1, Nat.lt_of_le_of_lt (Nat.sub_le _ _) t.isLt⟩

/-- What a point after the first leaves in the output's buffer: the attention of the item the point before scored. -/
theorem out_at (c : Dev nD) (t : Fin cfg0.N) (h : 0 < t.val) :
    (outsAt0 m c t.val t.isLt).1 = output (logits (iblk m c 0 (pred t)) (iblk m c 1 (pred t))) (iblk m c 2 t) := by
  rcases Nat.mod_two_eq_zero_or_one t.val with h2 | h2
  · have h1 : ¬t.val % 2 = 1 := by rw [h2]; decide
    simp only [outsAt0_C m c t (pos_facts t h) h2 h1, out_even]
    exact congrArg (fun S => output S _) (scores_odd m c (pred t) (by show (t.val - 1) % 2 = 1; omega))
  · simp only [outsAt0_B m c t (odd_facts t h2).1 (odd_facts t h2).2 h2, out_odd]
    exact congrArg (fun S => output S _) (scores_even m c (pred t) (by show (t.val - 1) % 2 = 0; omega))

end Cert.MlaIdeal.Points

end
-- ==== Proof.MlaArray.lean ====
/-
  The result array of the latent attention call, as one function of its three packed arrays.
-/
module

public import proofs.«01_k».proof.Proof.MlaPoints

@[expose] public section

set_option maxRecDepth 16384

noncomputable section

namespace Cert.MlaIdeal.Array

open Cert.MlaIdeal Cert.MlaIdeal.Gen Cert.KernelIdeal.Step Cert.KernelIdeal.Heads Cert.MlaIdeal.Body
open Cert.MlaIdeal.Scratch Cert.MlaIdeal.Points Cert.Softmax
open Idealize.ShloMosaic Idealize.ShloMosaic.TcCoe
open Idealize.ShloMosaic.Pipeline (Dat)

variable (m : (ℓ : Loc nD τ sig) → Buf (Elt Ideal) ℓ)

/-- The score of query `s` of head `h`, scaled, against key `t`, over the 128 lanes of the packed arrays. -/
def logit (Q : FVec Ideal S8x1024x4096 .f32) (K : FVec Ideal S8x4096x1024 .bf16) (b : Fin 8) (h : Fin 8)
    (s : Fin 4096) : ℕ → EReal := fun t =>
  if ht : t < 4096 then ∑ d : Fin 128, K (ix3 b ⟨t, ht⟩ ⟨128 * h.val + d.val, by omega⟩)
    * (Q (ix3 b ⟨128 * h.val + d.val, by omega⟩ s) * scale) else 0

/-- Row `r` of the packed values. -/
def row (V : FVec Ideal S8x512x4096 .bf16) (b : Fin 8) (r : Fin 512) : ℕ → EReal := fun t =>
  if ht : t < 4096 then V (ix3 b r ⟨t, ht⟩) else 0

/-- The call's result over its three packed arrays. -/
def result (Q : FVec Ideal S8x1024x4096 .f32) (K : FVec Ideal S8x4096x1024 .bf16) (V : FVec Ideal S8x512x4096 .bf16) :
    FVec Ideal S8x4096x512 .bf16 := fun j =>
  have hj : (j 2).val < 512 := (j 2).isLt
  Ideal.div
    (mass (logit Q K (j 0) ⟨(j 2).val / 64, by omega⟩ (j 1)) (row V (j 0) (j 2)) 4096)
    (mass (logit Q K (j 0) ⟨(j 2).val / 64, by omega⟩ (j 1)) (fun _ => 1) 4096)

/-- The array of window 0. -/
theorem array0 (c : Dev nD) : V m c (Pipeline.arrRef spec0 0) = V m c main_v2 := rfl

/-- A read of any array through the block of window 0. -/
theorem read0 (c : Dev nD) (t : Fin cfg0.N) (A : Buf (Elt Ideal) ((c : Thread nD τ).loc (Pipeline.arrRef spec0 0)))
    (y : S1x256x256.Idx) : ((cfg0.win 0).blk t).view.read (Elt Ideal) A y = A ((win0_0.blk t).view.emb y) := rfl

/-- The block of queries is the array read where the block sits. -/
theorem block0 (c : Dev nD) (t : Fin cfg0.N) (y : S1x256x256.Idx) :
    iblk m c 0 t y = V m c main_v2 ((win0_0.blk t).view.emb y) :=
  (read0 c t (V m c (Pipeline.arrRef spec0 0)) y).trans (congrFun (array0 m c) _)

/-- The array of window 1. -/
theorem array1 (c : Dev nD) : V m c (Pipeline.arrRef spec0 1) = V m c main_v5 := rfl

/-- A read of any array through the block of window 1. -/
theorem read1 (c : Dev nD) (t : Fin cfg0.N) (A : Buf (Elt Ideal) ((c : Thread nD τ).loc (Pipeline.arrRef spec0 1)))
    (y : S1x4096x256.Idx) : ((cfg0.win 1).blk t).view.read (Elt Ideal) A y = A ((win0_1.blk t).view.emb y) := rfl

/-- The block of keys is the array read where the block sits. -/
theorem block1 (c : Dev nD) (t : Fin cfg0.N) (y : S1x4096x256.Idx) :
    iblk m c 1 t y = V m c main_v5 ((win0_1.blk t).view.emb y) :=
  (read1 c t (V m c (Pipeline.arrRef spec0 1)) y).trans (congrFun (array1 m c) _)

/-- The array of window 2. -/
theorem array2 (c : Dev nD) : V m c (Pipeline.arrRef spec0 2) = V m c main_v8 := rfl

/-- A read of any array through the block of window 2. -/
theorem read2 (c : Dev nD) (t : Fin cfg0.N) (A : Buf (Elt Ideal) ((c : Thread nD τ).loc (Pipeline.arrRef spec0 2)))
    (y : S1x128x4096.Idx) : ((cfg0.win 2).blk t).view.read (Elt Ideal) A y = A ((win0_2.blk t).view.emb y) := rfl

/-- The block of values is the array read where the block sits. -/
theorem block2 (c : Dev nD) (t : Fin cfg0.N) (y : S1x128x4096.Idx) :
    iblk m c 2 t y = V m c main_v8 ((win0_2.blk t).view.emb y) :=
  (read2 c t (V m c (Pipeline.arrRef spec0 2)) y).trans (congrFun (array2 m c) _)

/-- The queries' block at an index. -/
theorem queries_at (c : Dev nD) (t : Fin cfg0.N) (h : t.val < 512) (r : Fin 256) (q : Fin 256) (b : Fin 8)
    (r' : Fin 1024) (s : Fin 4096) (hb : b.val = t.val / 64) (hr : r'.val = t.val / 16 % 4 * 256 + r.val)
    (hs : s.val = t.val % 16 * 256 + q.val) :
    (show FVec Ideal S1x256x256 .f32 from iblk m c 0 t) (ix3 0 r q)
      = (show FVec Ideal S8x1024x4096 .f32 from V m c main_v2) (ix3 b r' s) := by
  refine (block0 m c t _).trans (congrArg _ ?_)
  blk_ext [(idx_in t h).1]

/-- The keys' block at an index. -/
theorem keys_at (c : Dev nD) (t : Fin cfg0.N) (h : t.val < 512) (k : Fin 4096) (d : Fin 256) (b : Fin 8)
    (d' : Fin 1024) (hb : b.val = t.val / 64) (hd : d'.val = t.val / 16 % 4 * 256 + d.val) :
    (show FVec Ideal S1x4096x256 .bf16 from iblk m c 1 t) (ix3 0 k d)
      = (show FVec Ideal S8x4096x1024 .bf16 from V m c main_v5) (ix3 b k d') := by
  refine (block1 m c t _).trans (congrArg _ ?_)
  blk_ext [(idx_in t h).2]

/-- The values' block at an index. -/
theorem values_block (c : Dev nD) (t : Fin cfg0.N) (e : Fin 128) (k : Fin 4096) (b : Fin 8) (r : Fin 512)
    (hb : b.val = (t.val - 1) / 64) (hr : r.val = (t.val - 1) / 16 % 4 * 128 + e.val) :
    (show FVec Ideal S1x128x4096 .bf16 from iblk m c 2 t) (ix3 0 e k)
      = (show FVec Ideal S8x512x4096 .bf16 from V m c main_v8) (ix3 b r k) := by
  refine (block2 m c t _).trans (congrArg _ ?_)
  blk_ext [(idx_out t).1]

/-- The point's output at an index is the call's result where the output's block sits. -/
theorem point (c : Dev nD) (t : Fin cfg0.N) (h : 0 < t.val) (q : Fin 256) (l : Fin 128) (b : Fin 8) (s : Fin 4096)
    (j : Fin 512) (hb : b.val = (t.val - 1) / 64) (hs : s.val = (t.val - 1) % 16 * 256 + q.val)
    (hj : j.val = (t.val - 1) / 16 % 4 * 128 + l.val) :
    output (logits (iblk m c 0 (pred t)) (iblk m c 1 (pred t))) (iblk m c 2 t) (ix3 0 q l)
      = result (V m c main_v2) (V m c main_v5) (V m c main_v8) (ix3 b s j) := by
  have ht : t.val < 513 := lt_of_lt_of_eq t.isLt N_0
  have hp : (pred t).val = t.val - 1 := rfl
  have e1 : score (logits (iblk m c 0 (pred t)) (iblk m c 1 (pred t))) ⟨l.val / 64, by omega⟩ q
      = logit (V m c main_v2) (V m c main_v5) b ⟨j.val / 64, by omega⟩ s := by
    funext k
    unfold score logit
    split
    · rename_i hk
      refine Finset.sum_congr rfl fun d _ => congrArg₂ (· * ·) ?_ ?_
      · exact keys_at m c (pred t) (by omega) ⟨k, hk⟩ _ b _ (by omega)
          (by show 128 * (j.val / 64) + d.val = (pred t).val / 16 % 4 * 256 + (128 * (l.val / 64) + d.val); omega)
      · refine congrArg (· * scale) ?_
        exact queries_at m c (pred t) (by omega) _ q b _ s (by omega)
          (by show 128 * (j.val / 64) + d.val = (pred t).val / 16 % 4 * 256 + (128 * (l.val / 64) + d.val); omega)
          (by omega)
    · rfl
  have e2 : value (iblk m c 2 t) l = row (V m c main_v8) b j := by
    funext k
    unfold value row
    split
    · rename_i hk
      exact values_block m c t _ ⟨k, hk⟩ b _ hb hj
    · rfl
  rw [output_at, e1, e2]
  rfl

/-- The result array after the run. -/
theorem final (c : Dev nD) : (dats m 0 c).arrAt 3 cfg0.N
    = result (V m c main_v2) (V m c main_v5) (V m c main_v8) := by
  refine (dats m 0 c).arrAt_eq_of_covers 3 _ (by decide +kernel) fun t hf y => ?_
  blk_simp
  rw [after0_3, out_at m c t (flush_pos t hf)]
  idx_vars y
  obtain_idx j : S8x4096x512 := [(t.val - 1) / 64, (t.val - 1) % 16 * 256 + y1.val, (t.val - 1) / 16 % 4 * 128 + y2.val] with hj
  obtain rfl : y0 = 0 := Subsingleton.elim _ _
  refine (point m c t (flush_pos t hf) y1 y2 (j 0) (j 1) (j 2) hj0 hj1 hj2).trans (congrArg _ ?_)
  blk_ext [(idx_out t).2]

end Cert.MlaIdeal.Array

end
-- ==== Proof.MlaHost.lean ====
/-
  The packed arrays the latent attention call reads, element by element.
-/
module

public import proofs.«01_k».proof.Proof.MlaArray

@[expose] public section

set_option maxRecDepth 16384

noncomputable section

namespace Cert.MlaIdeal.Host

open Cert.MlaIdeal Cert.MlaIdeal.Gen Cert.MlaIdeal.Scratch Cert.MlaIdeal.Array Cert.Softmax
open Idealize.ShloMosaic Idealize.ShloMosaic.TcCoe

variable (m : (ℓ : Loc nD τ sig) → Buf (Elt Ideal) ℓ)

/-- The queries given. -/
abbrev q (c : Dev nD) : FVec Ideal S8x4096x8x96 .f32 := m ((c.tc : Thread nD τ).loc main_arg0)

/-- The keys given. -/
abbrev k (c : Dev nD) : FVec Ideal S8x4096x8x96 .f32 := m ((c.tc : Thread nD τ).loc main_arg1)

/-- The values given. -/
abbrev v (c : Dev nD) : FVec Ideal S8x4096x8x64 .f32 := m ((c.tc : Thread nD τ).loc main_arg2)

/-- The number the lanes are padded with. -/
theorem zero_pad : (FloatOps.sitofp FTy.f32 0#32 : Ideal .f32) = (0 : EReal) := by
  show (((0#32 : BitVec 32).toInt : ℝ) : EReal) = 0
  simp

/-- The packed queries, transposed: each head's 96 lanes, and zeros in the 32 after them. -/
theorem queries (c : Dev nD) (b : Fin 8) (h : Fin 8) (d : Fin 128) (s : Fin 4096) :
    (show FVec Ideal S8x1024x4096 .f32 from V m c main_v2) (ix3 b ⟨128 * h.val + d.val, by omega⟩ s)
      = if hd : d.val < 96 then q m c (ix4 b s h ⟨d.val, hd⟩) else 0 := by
  simp only [V, hostOps0, hostOps0_1, hostOps0_2, hostOps0_3, hostOps0_4, List.flatten_cons, List.flatten_nil, List.append_nil,
    List.cons_append, List.nil_append]
  entry_read
  pointwise
  change (pad S8x8x128x4096 ![0, 0, 0, 0] ![0, 0, 32, 0] ![0, 0, 0, 0]
    (transpose S8x8x96x4096 [0, 2, 3, 1] (q m c) transposes_S8x4096x8x96_S8x8x96x4096_0_2_3_1)
    (sitofp .f32 (constantI S_ 32 0#32)) pads_S8x8x96x4096_S8x8x128x4096_000_000_0320_000 h_S_ :
      FVec Ideal S8x8x128x4096 .f32) (ix4 b h d s) = _
  pointwise
  by_cases hd : d.val < 96
  · rw [dif_pos hd, dif_pos hd]
  · rw [dif_neg hd, dif_neg hd]
    exact zero_pad

/-- The packed keys: each head's 96 lanes, and zeros in the 32 after them. -/
theorem keys (c : Dev nD) (b : Fin 8) (t : Fin 4096) (h : Fin 8) (d : Fin 128) :
    (show FVec Ideal S8x4096x1024 .bf16 from V m c main_v5) (ix3 b t ⟨128 * h.val + d.val, by omega⟩)
      = if hd : d.val < 96 then k m c (ix4 b t h ⟨d.val, hd⟩) else 0 := by
  simp only [V, hostOps0, hostOps0_1, hostOps0_2, hostOps0_3, hostOps0_4, List.flatten_cons, List.flatten_nil, List.append_nil,
    List.cons_append, List.nil_append]
  entry_read
  pointwise
  change (pad S8x4096x8x128 ![0, 0, 0, 0] ![0, 0, 0, 32] ![0, 0, 0, 0] (k m c)
    (sitofp .f32 (constantI S_ 32 0#32)) pads_S8x4096x8x96_S8x4096x8x128_000_000_000_0320 h_S_ :
      FVec Ideal S8x4096x8x128 .f32) (ix4 b t ⟨(128 * h.val + d.val) / 128, _⟩ ⟨(128 * h.val + d.val) % 128, _⟩) = _
  pointwise
  by_cases hd : d.val < 96
  · refine (dif_pos ⟨by omega, by omega⟩).trans (Eq.trans ?_ (dif_pos hd).symm)
    refine congrArg (k m c) ?_
    have e1 : (⟨(128 * h.val + d.val) / 128, by omega⟩ : Fin 8) = h := Fin.ext (by show _ / 128 = h.val; omega)
    have e2 : (⟨(128 * h.val + d.val) % 128, by omega⟩ : Fin 96) = ⟨d.val, hd⟩ := Fin.ext (by show _ % 128 = d.val; omega)
    exact congrArg₂ (ix4 b t) e1 e2
  · rw [dif_neg (by omega), dif_neg hd]
    exact zero_pad

/-- The packed values, transposed: the heads' lanes one above the other. -/
theorem values (c : Dev nD) (b : Fin 8) (t : Fin 4096) (d : Fin 512) :
    (show FVec Ideal S8x512x4096 .bf16 from V m c main_v8) (ix3 b d t)
      = v m c (ix4 b t ⟨d.val / 64, by omega⟩ ⟨d.val % 64, by omega⟩) := by
  simp only [V, hostOps0, hostOps0_1, hostOps0_2, hostOps0_3, hostOps0_4, List.flatten_cons, List.flatten_nil, List.append_nil,
    List.cons_append, List.nil_append]
  entry_read
  pointwise

end Cert.MlaIdeal.Host

end
-- ==== Proof.MlaReference.lean ====
/-
  What the plain latent attention computes, element by element.
-/
module

public import proofs.«01_k».proof.Proof.Gen.MlaReferenceIdeal.Run
public import proofs.«01_k».proof.Proof.Rows

@[expose] public section

set_option maxRecDepth 16384

noncomputable section

namespace Cert.MlaReferenceIdeal.Attention

open Cert.MlaReferenceIdeal Cert.MlaReferenceIdeal.Gen Cert.Softmax
open Idealize.ShloMosaic Idealize.ShloMosaic.TcCoe Idealize.SL.Sem

/-- The score of query `s` of head `h` against key `t`: a dot product over the 96 lanes, scaled. -/
def logit (q k : FVec Ideal S8x4096x8x96 .f32) (b : Fin 8) (h : Fin 8) (s : Fin 4096) : ℕ → EReal := fun t =>
  if ht : t < 4096 then
    ∑ d : Fin 96, (q (ix4 b s h d) * Ideal.ofBits .f32 0x3DD105EC#32) * k (ix4 b ⟨t, ht⟩ h d)
  else 0

/-- Lane `e` of the values of head `h`, as a function of the key. -/
def value (v : FVec Ideal S8x4096x8x64 .f32) (b : Fin 8) (h : Fin 8) (e : Fin 64) : ℕ → EReal := fun t =>
  if ht : t < 4096 then v (ix4 b ⟨t, ht⟩ h e) else 0

/-- Softmax attention: the average of the values under the weights the scores give. -/
def attention (q k : FVec Ideal S8x4096x8x96 .f32) (v : FVec Ideal S8x4096x8x64 .f32) :
    FVec Ideal S8x4096x512 .bf16 := fun j =>
  have hj : (j 2).val < 512 := (j 2).isLt
  average (logit q k (j 0) ⟨(j 2).val / 64, by omega⟩ (j 1))
    (value v (j 0) ⟨(j 2).val / 64, by omega⟩ ⟨(j 2).val % 64, by omega⟩) 4096

/-- The scores as the program forms them. -/
def scores (q k : FVec Ideal S8x4096x8x96 .f32) : FVec Ideal S8x8x4096x4096 .f32 :=
  Host.dotGeneral dot_S8x4096x8x96_S8x4096x8x96_S8x8x4096x4096_3_3_1_1_02_02 none
    (mulf q (broadcastInDim S8x4096x8x96 ![] bcast_S_S8x4096x8x96 (constant S_ .f32 0x3DD105EC#32))) k

/-- The greatest score of each row. -/
def peaks (x : FVec Ideal S8x8x4096x4096 .f32) : FVec Ideal S8x8x4096 .f32 :=
  Host.reduce FloatOps.maximumf x (constant S_ .f32 0xFF800000#32) reducesTo_S8x8x4096x4096_S8x8x4096_d3 h_S_

/-- Each score less the number given for its row, exponentiated. -/
def exps (x : FVec Ideal S8x8x4096x4096 .f32) (y : FVec Ideal S8x8x4096 .f32) : FVec Ideal S8x8x4096x4096 .f32 :=
  Host.exp (subf x (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) y))))

/-- Each row divided by its sum. -/
def weights (x : FVec Ideal S8x8x4096x4096 .f32) : FVec Ideal S8x8x4096x4096 .f32 :=
  Host.divf x (broadcastInDim S8x8x4096x4096 ![0, 1, 2, 3] bcast_S8x8x4096x1_S8x8x4096x4096_0_1_2_3
    (broadcastInDim S8x8x4096x1 ![0, 1, 2] bcast_S8x8x4096_S8x8x4096x1_0_1_2
      (Host.reduceAdd x (constant S_ .f32 0x00000000#32) reducesTo_S8x8x4096x4096_S8x8x4096_d3 h_S_)))

/-- The weighted values, heads side by side. -/
def mixed (p : FVec Ideal S8x8x4096x4096 .f32) (v : FVec Ideal S8x4096x8x64 .f32) : FVec Ideal S8x4096x512 .bf16 :=
  truncf .bf16 (shapeCast S8x4096x512 (transpose S8x4096x8x64 [0, 3, 1, 2]
    (Host.dotGeneral dot_S8x4096x8x64_S8x8x4096x4096_S8x8x64x4096_1_3_3_2_02_01 none v p)
    transposes_S8x8x64x4096_S8x4096x8x64_0_3_1_2) shapeCasts_S8x4096x8x64_S8x4096x512) bitsLt_bf16_f32

/-- An element of the scores. -/
theorem scores_at (q k : FVec Ideal S8x4096x8x96 .f32) (b h : Fin 8) (s t : Fin 4096) :
    scores q k (ix4 b h s t) = logit q k b h s t.val := by
  unfold logit
  rw [dif_pos t.isLt]
  pointwise [scores]

/-- An element of the rows' greatest scores. -/
theorem peaks_at (x : FVec Ideal S8x8x4096x4096 .f32) (b h : Fin 8) (s : Fin 4096) :
    peaks x (ix3 b h s) = (Finset.univ : Finset (Fin 4096)).fold max ⊥ fun t => x (ix4 b h s t) :=
  (rowMax_four x _ _ _ b h s).trans (congrArg (fun i => (Finset.univ : Finset (Fin 4096)).fold max i _) bits_neg_inf)

/-- An element of the exponentials. -/
theorem exps_at (x : FVec Ideal S8x8x4096x4096 .f32) (y : FVec Ideal S8x8x4096 .f32) (b h : Fin 8) (s t : Fin 4096) :
    exps x y (ix4 b h s t) = Ideal.exp (x (ix4 b h s t) - y (ix3 b h s)) := by
  pointwise [exps]
  rw [bits_neg_inf, max_eq_right bot_le]

/-- An element of the weights. -/
theorem weights_at (x : FVec Ideal S8x8x4096x4096 .f32) (b h : Fin 8) (s t : Fin 4096) :
    weights x (ix4 b h s t) = Ideal.div (x (ix4 b h s t)) (∑ r : Fin 4096, x (ix4 b h s r)) := by
  pointwise [weights]

/-- An element of the weighted values. -/
theorem mixed_at (p : FVec Ideal S8x8x4096x4096 .f32) (v : FVec Ideal S8x4096x8x64 .f32) (b : Fin 8) (s : Fin 4096)
    (j : Fin 512) :
    mixed p v (ix3 b s j)
      = ∑ t : Fin 4096, v (ix4 b t ⟨j.val / 64, by omega⟩ ⟨j.val % 64, by omega⟩)
          * p (ix4 b ⟨j.val / 64, by omega⟩ s t) := by
  pointwise [mixed]

/-- The program's composed operations are the softmax attention. -/
theorem composed (q k : FVec Ideal S8x4096x8x96 .f32) (v : FVec Ideal S8x4096x8x64 .f32) :
    mixed (weights (exps (scores q k) (peaks (scores q k)))) v = attention q k v := by
  funext j
  idx_vars j
  rw [mixed_at]
  show _ = average (logit q k j0 ⟨j2.val / 64, by omega⟩ j1)
    (value v j0 ⟨j2.val / 64, by omega⟩ ⟨j2.val % 64, by omega⟩) 4096
  unfold average
  rw [Finset.sum_range]
  refine Finset.sum_congr rfl fun t _ => congrArg₂ (· * ·) ?_ ?_
  · unfold value
    rw [dif_pos t.isLt]
  · rw [weights_at, exps_at, peaks_at, Finset.sum_range]
    simp only [exps_at, peaks_at, scores_at, fold_top]

/-- The plain attention runs, leaves its arguments, and its result is the softmax attention. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = attention (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  generalize m ((c.tc : Thread nD τ).loc main_arg0) = q
  generalize m ((c.tc : Thread nD τ).loc main_arg1) = k
  generalize m ((c.tc : Thread nD τ).loc main_arg2) = v
  exact composed q k v

end Cert.MlaReferenceIdeal.Attention

end
-- ==== Proof.Mla.lean ====
/-
  The latent attention call computes what the plain latent attention computes.
-/
module

public import proofs.«01_k».proof.Proof.MlaArray
public import proofs.«01_k».proof.Proof.MlaHost
public import proofs.«01_k».proof.Proof.MlaReference
public import proofs.«01_k».proof.Proof.Dots

@[expose] public section

set_option maxRecDepth 16384

noncomputable section

namespace Cert.MlaIdeal.Mla

open Cert.MlaIdeal Cert.MlaIdeal.Gen Cert.Softmax Cert.MlaIdeal.Host Cert.MlaIdeal.Scratch
open Idealize.ShloMosaic Idealize.ShloMosaic.TcCoe Idealize.SL.Sem

variable (m : (ℓ : Loc nD τ sig) → Buf (Elt Ideal) ℓ)

/-- The plain attention's scale: the single-precision number nearest one over the root of 96. -/
theorem root : Ideal.ofBits .f32 0x3DD105EC#32 = (((3424635 : ℝ) / 33554432 : ℝ) : EReal) := by
  simp [Ideal.ofBits, Ideal.ieee, -EReal.coe_mul]; norm_num

/-- The call's score of a query and a key is a dot product over the head's 96 lanes. -/
theorem packed (c : Dev nD) (b h : Fin 8) (s t : Fin 4096) :
    Array.logit (V m c main_v2) (V m c main_v5) b h s t.val
      = ∑ e : Fin 96, k m c (ix4 b t h e) * (q m c (ix4 b s h e) * scale) := by
  unfold Array.logit
  rw [dif_pos t.isLt]
  refine Eq.trans (Finset.sum_congr rfl fun d _ => ?_) (sum_padded
    (fun d => (if hd : d.val < 96 then k m c (ix4 b t h ⟨d.val, hd⟩) else 0)
      * ((if hd : d.val < 96 then q m c (ix4 b s h ⟨d.val, hd⟩) else 0) * scale))
    fun d hd => ?_) |>.trans (Finset.sum_congr rfl fun e _ => ?_)
  · exact congrArg₂ (· * ·) (keys m c b t h d) (congrArg (· * scale) (queries m c b h d s))
  · show (if hd : d.val < 96 then k m c (ix4 b t h ⟨d.val, hd⟩) else 0) * _ = 0
    rw [dif_neg (by omega), zero_mul]
  · show (if hd : e.val < 96 then k m c (ix4 b t h ⟨e.val, hd⟩) else 0)
      * ((if hd : e.val < 96 then q m c (ix4 b s h ⟨e.val, hd⟩) else 0) * scale) = _
    rw [dif_pos e.isLt, dif_pos e.isLt]

/-- A row of the packed values is a lane of the values of one head. -/
theorem lane (c : Dev nD) (b : Fin 8) (r : Fin 512) : Array.row (V m c main_v8) b r
    = MlaReferenceIdeal.Attention.value (v m c) b ⟨r.val / 64, by omega⟩ ⟨r.val % 64, by omega⟩ := by
  funext t
  unfold Array.row MlaReferenceIdeal.Attention.value
  by_cases ht : t < 4096
  · rw [dif_pos ht, dif_pos ht]
    exact values m c b ⟨t, ht⟩ r
  · rw [dif_neg ht, dif_neg ht]

/-- For finite queries and keys the call's scores are the plain attention's, over the logarithm of two. -/
theorem scores (c : Dev nD) (hq : ∀ i, ∃ r : ℝ, (q m c i : EReal) = r) (hk : ∀ i, ∃ r : ℝ, (k m c i : EReal) = r)
    (b h : Fin 8) (s : Fin 4096) (t : ℕ) : ∃ x : ℝ,
    MlaReferenceIdeal.Attention.logit (q m c) (k m c) b h s t = x
      ∧ Array.logit (V m c main_v2) (V m c main_v5) b h s t = (((Real.log 2)⁻¹ * x : ℝ) : EReal) := by
  by_cases ht : t < 4096
  · obtain ⟨x, h1, h2⟩ := scaled_dot (fun e : Fin 96 => (k m c (ix4 b ⟨t, ht⟩ h e) : EReal))
      (fun e => (q m c (ix4 b s h e) : EReal)) (fun e => hk _) (fun e => hq _) (3424635 / 33554432)
    refine ⟨x, ?_, (packed m c b h s ⟨t, ht⟩).trans h2⟩
    unfold MlaReferenceIdeal.Attention.logit
    rw [dif_pos ht, root]
    exact (Finset.sum_congr rfl fun e _ => mul_comm _ _).trans h1
  · refine ⟨0, ?_, ?_⟩
    · unfold MlaReferenceIdeal.Attention.logit
      rw [dif_neg ht]; rfl
    · unfold Array.logit
      rw [dif_neg ht, mul_zero]; rfl

/-- For finite queries and keys the call's result is the plain attention's. -/
theorem result_eq (c : Dev nD) (hq : ∀ i, ∃ r : ℝ, (q m c i : EReal) = r) (hk : ∀ i, ∃ r : ℝ, (k m c i : EReal) = r) :
    Array.result (V m c main_v2) (V m c main_v5) (V m c main_v8)
      = MlaReferenceIdeal.Attention.attention (q m c) (k m c) (v m c) := by
  funext j
  have hj : (j 2).val < 512 := (j 2).isLt
  choose x hx hy using fun t => scores m c hq hk (j 0) ⟨(j 2).val / 64, by omega⟩ (j 1) t
  unfold Array.result MlaReferenceIdeal.Attention.attention
  dsimp only
  rw [lane m c (j 0) (j 2), weighted_eq x _ (by norm_num) _ hy, ← funext hx]

end Cert.MlaIdeal.Mla

end
-- ==== Proof.Finite.lean ====
/-
  What it means that every entry of an array is a number.
-/
module

public import proofs.«01_k».proof.Proof.Gen.Pre_finite
public import proofs.«01_k».proof.Proof.Gen.Pre_finite_mla
public import Idealize.ShloMosaic.Lib.Pipeline.ValueKit

@[expose] public section

noncomputable section

namespace Cert.Finite

open Idealize.ShloMosaic

/-- A conjunction of bits that comes out as one has only ones. -/
theorem ones_of_foldl {α : Type*} (p : α → BitVec 1) (l : List α) (a : BitVec 1)
    (h : l.foldl (fun r i => IntOp.andi r (p i)) a = 1#1) : a = 1#1 ∧ ∀ i ∈ l, p i = 1#1 := by
  induction l generalizing a with
  | nil => exact ⟨h, by simp⟩
  | cons x l ih =>
    obtain ⟨h1, h2⟩ := ih _ h
    have hx : ∀ a b : BitVec 1, IntOp.andi a b = 1#1 → a = 1#1 ∧ b = 1#1 := by decide
    exact ⟨(hx _ _ h1).1, List.forall_mem_cons.mpr ⟨(hx _ _ h1).2, h2⟩⟩

/-- Where the conjunction of a whole array of bits is one, so is every bit. -/
theorem ones_of_reduce {s t u : Shape} {axes : List (Fin s.rank)} (p : IVec s 1) (init : IVec u 1) (h : s.ReducesTo axes t)
    (hu : 0 < u.numel) (ht : t.rank = 0) (j : t.Idx) (e : Host.reduce IntOp.andi p init h hu j = 1#1) (i : s.Idx) :
    p i = 1#1 := by
  rw [Host.reduce_eq_foldl] at e
  refine (ones_of_foldl p _ _ e).2 i (List.mem_filter.mpr ⟨?_, ?_⟩)
  · exact List.mem_map.mpr ⟨s.rowMajor i, List.mem_finRange _, by simp⟩
  · exact decide_eq_true (funext fun a => absurd a.isLt (by omega))

/-- A value whose absolute value compares below infinity is a real number. -/
theorem real_of_lt {x : Ideal .f32}
    (h : FloatOps.cmpf .olt (FloatOps.hostAbsf x) (FloatOps.ofBits .f32 0x7F800000#32 : Ideal .f32) = 1#1) :
    ∃ r : ℝ, (x : EReal) = r := by
  have hinf : Ideal.ofBits .f32 0x7F800000#32 = (⊤ : EReal) := by simp [Ideal.ofBits, Ideal.ieee]
  have h' : Ideal.cmp .olt (max x (-x) : EReal) (Ideal.ofBits .f32 0x7F800000#32) = 1#1 := h
  rw [hinf] at h'
  induction x using EReal.rec with
  | bot => simp [Ideal.cmp] at h'
  | top => simp [Ideal.cmp] at h'
  | coe r => exact ⟨r, rfl⟩

/-- Where the precondition holds, the queries and the keys are real numbers. -/
theorem finite {q : FVec Ideal Pre_finite.S8x4096x8x64 .f32} {k v : FVec Ideal Pre_finite.S8x4096x2x64 .f32}
    (h : Pre_finite.fn (F := Ideal) q k v = fun _ => 1#1) : (∀ i, ∃ r : ℝ, (q i : EReal) = r) ∧ ∀ i, ∃ r : ℝ, (k i : EReal) = r := by
  have h0 := congrFun h (Shape.Idx.first Pre_finite.Gen.h_S_)
  have hx : ∀ a b : BitVec 1, IntOp.andi a b = 1#1 → a = 1#1 ∧ b = 1#1 := by decide
  obtain ⟨h1, h2⟩ := hx _ _ h0
  refine ⟨fun i => real_of_lt (ones_of_reduce _ _ _ _ rfl _ h1 i), fun i => real_of_lt (ones_of_reduce _ _ _ _ rfl _ h2 i)⟩

/-- Where the precondition of the latent attention holds, the queries and the keys are real numbers. -/
theorem finite_mla {q : FVec Ideal Pre_finite_mla.S8x4096x8x96 .f32}
    {k : FVec Ideal Pre_finite_mla.S8x4096x8x96 .f32} {v : FVec Ideal Pre_finite_mla.S8x4096x8x64 .f32}
    (h : Pre_finite_mla.fn (F := Ideal) q k v = fun _ => 1#1) :
    (∀ i, ∃ r : ℝ, (q i : EReal) = r) ∧ ∀ i, ∃ r : ℝ, (k i : EReal) = r := by
  have h0 := congrFun h (Shape.Idx.first Pre_finite_mla.Gen.h_S_)
  have hx : ∀ a b : BitVec 1, IntOp.andi a b = 1#1 → a = 1#1 ∧ b = 1#1 := by decide
  obtain ⟨h1, h2⟩ := hx _ _ h0
  refine ⟨fun i => real_of_lt (ones_of_reduce _ _ _ _ rfl _ h1 i), fun i => real_of_lt (ones_of_reduce _ _ _ _ rfl _ h2 i)⟩

end Cert.Finite

end
-- ==== Proof.ExpertsTables.lean ====
/-
  The experts call at tables that its precondition admits: which blocks its windows take, and which of its paths
  a grid point runs.
-/
module

public import proofs.«01_k».proof.Proof.Gen.ExpertsIdeal.Skeleton
public import proofs.«01_k».proof.Proof.Gen.ExpertsIdeal.Launch
public import Idealize.ShloMosaic.Lib.Pipeline.Quiescent
public import Idealize.ShloMosaic.Lib.Claim
public import Idealize.ShloMosaic.Lib.Pointwise

@[expose] public section

set_option maxRecDepth 16384

noncomputable section

namespace Cert.ExpertsIdeal.Tables

open Cert.ExpertsIdeal Cert.ExpertsIdeal.Gen
open Idealize.ShloMosaic Idealize.ShloMosaic.TcCoe

/-- The tables and the scratches as the body takes them. -/
abbrev tbM0_0 : Memref sig .tc .smem S656 .i32 := Memref.whole main_arg0
abbrev tbM0_1 : Memref sig .tc .smem S1 .i32 := Memref.whole main_arg1
abbrev scM0_0 : Memref sig .tc .vmem S1024x2048 .bf16 := Memref.whole cc0_scratch0
abbrev scM0_1 : Memref sig .tc .vmem S1024x1024 .bf16 := Memref.whole cc0_scratch1

/-- The tables the precondition admits: an expert per block of rows, and how many blocks hold rows. -/
abbrev Tab : Type := {p : (S656.Idx → BitVec 32) × (S1.Idx → BitVec 32) //
  (∀ x, (p.1 x).toNat < 32) ∧ ∀ x, 1 ≤ (p.2 x).toNat ∧ (p.2 x).toNat ≤ 656}

variable (F : FTy → Type) [FloatOps F] (ch : Tab)

/-- The blocks' experts and the number of used blocks, as the two tables. -/
abbrev tab0 : S656.Idx → BitVec 32 := ch.1.1
abbrev tab1 : S1.Idx → BitVec 32 := ch.1.2

/-- The tables as the pipeline takes them. -/
def words : pre0.Contents (Elt F) := fun | ⟨0, _⟩ => tab0 ch | ⟨1, _⟩ => tab1 ch | ⟨_ + 2, h⟩ => absurd h (by simp)

/-- How many blocks hold rows. -/
def used : ℕ := (tab1 ch (ix1 0)).toNat

/-- The expert of block `n`, block 0's past the last block. -/
def expert (n : ℕ) : ℕ := if h : n < 656 then (tab0 ch (ix1 ⟨n, h⟩)).toNat else 0

theorem used_pos : 1 ≤ used ch := (ch.2.2 _).1
theorem used_le : used ch ≤ 656 := (ch.2.2 _).2
theorem expert_lt (n : ℕ) : expert ch n < 32 := by
  unfold expert; split
  · exact ch.2.1 _
  · decide

theorem lt_grid (i : grid0.Coords) : (i 0).val < 656 := (i 0).isLt

theorem word1 (x : S1.Idx) : tab1 ch x = BitVec.ofNat 32 (used ch) := by
  unfold used
  rw [BitVec.ofNat_toNat, BitVec.setWidth_eq]
  congr 1; funext a
  fin_cases a
  exact Subsingleton.elim (α := Fin 1) _ _

theorem word0 (x : S656.Idx) (n : ℕ) (h : (x 0).val = n) : tab0 ch x = BitVec.ofNat 32 (expert ch n) := by
  have hn : n < 656 := h ▸ (x 0).isLt
  unfold expert
  rw [dif_pos hn, BitVec.ofNat_toNat, BitVec.setWidth_eq]
  congr 1; funext a
  fin_cases a
  exact Fin.ext h

/-- A point's own number as the offset of a read of the first table. -/
theorem off1 (i : grid0.Coords) : (k0_off1 i) 0 = (i 0).val := by
  have h := lt_grid i
  show (BitVec.ofNat 32 (i 0).val).toNat = _
  rw [BitVec.toNat_ofNat]; omega

/-- The point before, the first point itself, as the offset of a read of the first table. -/
theorem off2 (i : grid0.Coords) : (k0_off2 i) 0 = (i 0).val - 1 := by
  have h := lt_grid i
  generalize hn : (i 0).val = n at h
  have : ∀ n : Fin 656, (Scalar.maxsi (Scalar.subi (BitVec.ofNat 32 n.val) 1#32) 0#32).toNat = n.val - 1 := by decide +kernel
  exact (congrArg (fun k => (Scalar.maxsi (Scalar.subi (BitVec.ofNat 32 k) 1#32) 0#32).toNat) hn).trans (this ⟨n, h⟩)

/-- What the body reads of the second table. -/
theorem read1 : View.readAt (Elt F) (tbM0_1).view (Rect.unit (s := S1) ![0] S1.size Facts₀.inb_S1_S1_0).toLoadRect (tab1 ch)
    (Shape.Idx.first (Facts₀.numel1_S1.symm ▸ Nat.one_pos)) = BitVec.ofNat 32 (used ch) := by
  exact word1 ch _

/-- What it reads of the first table. -/
theorem read0 (o : Fin 1 → ℕ) (h : ∀ a, o a + S1.size a ≤ S656.size a) (n : ℕ) (hn : o 0 = n) :
    View.readAt (Elt F) (tbM0_0).view (Rect.unit (s := S656) o S1.size h).toLoadRect (tab0 ch)
      (Shape.Idx.first (Facts₀.numel1_S1.symm ▸ Nat.one_pos)) = BitVec.ofNat 32 (expert ch n) := by
  refine word0 ch _ n ?_
  rw [← hn]
  rfl

/-! ## The blocks a grid point takes -/

theorem word_toNat (n : ℕ) (h : n < 656) : (BitVec.ofNat 32 n).toNat = n := by
  rw [BitVec.toNat_ofNat]; omega

theorem ofNat_inj {a b : ℕ} (ha : a < 656) (hb : b < 656) : BitVec.ofNat 32 a = BitVec.ofNat 32 b ↔ a = b := by
  constructor
  · intro h
    have := congrArg BitVec.toNat h
    rwa [word_toNat a ha, word_toNat b hb] at this
  · rintro rfl; rfl

theorem toInt_ofNat {a : ℕ} (ha : a ≤ 656) : (BitVec.ofNat 32 a).toInt = a := by
  rw [BitVec.toInt_eq_toNat_of_lt (by rw [BitVec.toNat_ofNat]; omega), BitVec.toNat_ofNat]; omega

/-- The rows' block: the point's own, the last used one past it. -/
theorem map0 (i : grid0.Coords) : cc0_transform_0 (F := F) Facts₀.inb_S1_S1_0 Facts₀.numel1_S1 (words F ch) i
    = ![min (i 0).val (used ch - 1), 0] := by
  have hi := lt_grid i
  have hu := used_pos ch
  have hu' := used_le ch
  have hw : (words F ch).at 1 (Rect.unit (s := S1) ![0] S1.size Facts₀.inb_S1_S1_0) Facts₀.numel1_S1 = BitVec.ofNat 32 (used ch) := word1 ch _
  have hs : Scalar.subi (BitVec.ofNat 32 (used ch)) 1#32 = BitVec.ofNat 32 (used ch - 1) := by
    apply BitVec.eq_of_toNat_eq
    show (BitVec.ofNat 32 (used ch) - 1#32).toNat = _
    rw [BitVec.toNat_sub, BitVec.toNat_ofNat, BitVec.toNat_ofNat, BitVec.toNat_ofNat]; omega
  have hm : (Scalar.minsi (BitVec.ofNat 32 (i 0).val) (BitVec.ofNat 32 (used ch - 1))).toNat = min (i 0).val (used ch - 1) := by
    simp only [Scalar.minsi, IntOp.minsi]
    split <;> rename_i h
    · rw [BitVec.slt_iff_toInt_lt, toInt_ofNat (by omega), toInt_ofNat (by omega)] at h
      rw [word_toNat _ hi]; omega
    · rw [BitVec.slt_iff_toInt_lt, toInt_ofNat (by omega), toInt_ofNat (by omega)] at h
      rw [word_toNat _ (by omega)]; omega
  show ![(Scalar.minsi (BitVec.ofNat 32 (i 0).val) (Scalar.subi ((words F ch).at 1 (Rect.unit (s := S1) ![0] S1.size Facts₀.inb_S1_S1_0) Facts₀.numel1_S1) 1#32)).toNat, 0] = _
  rw [hw, hs, hm]

/-- The block of a weight or a bias: the point's expert. -/
theorem mapE (i : grid0.Coords) : (![((words F ch).at 0 (Rect.unit (s := S656) (k0_off1 i) S1.size (Facts₀.k0_off1_inb i)) Facts₀.numel1_S1 : BitVec 32).toNat, 0, 0] : Fin 3 → ℕ)
    = ![expert ch (i 0).val, 0, 0] := by
  have hw : (words F ch).at 0 (Rect.unit (s := S656) (k0_off1 i) S1.size (Facts₀.k0_off1_inb i)) Facts₀.numel1_S1 = BitVec.ofNat 32 (expert ch (i 0).val) :=
    word0 ch _ _ (off1 i)
  rw [hw, word_toNat _ (by have := expert_lt ch (i 0).val; omega)]

theorem map1 (i : grid0.Coords) : cc0_transform_1 (F := F) Facts₀.k0_off1_inb Facts₀.numel1_S1 (words F ch) i = ![expert ch (i 0).val, 0, 0] := mapE F ch i
theorem map2 (i : grid0.Coords) : cc0_transform_2 (F := F) Facts₀.k0_off1_inb Facts₀.numel1_S1 (words F ch) i = ![expert ch (i 0).val, 0, 0] := mapE F ch i
theorem map3 (i : grid0.Coords) : cc0_transform_3 (F := F) Facts₀.k0_off1_inb Facts₀.numel1_S1 (words F ch) i = ![expert ch (i 0).val, 0, 0] := mapE F ch i
theorem map4 (i : grid0.Coords) : cc0_transform_4 (F := F) Facts₀.k0_off1_inb Facts₀.numel1_S1 (words F ch) i = ![expert ch (i 0).val, 0, 0] := mapE F ch i

theorem map5 (i : grid0.Coords) : cc0_transform_5 i = ![(i 0).val, 0] := by
  show ![(BitVec.ofNat 32 (i 0).val).toNat, 0] = _
  rw [word_toNat _ (lt_grid i)]

/-- An expert's block lies inside its array. -/
theorem inside (e : ℕ) (he : e < 32) (d1 d2 : ℕ) (a : Fin 3) : (![e, 0, 0] a + 1) * ![1, d1, d2] a ≤ ![32, d1, d2] a := by
  fin_cases a <;> simp <;> omega

/-- Every block lies inside its array, so the call runs. -/
theorem ok : ok0 (F := F) (words F ch) := by
  have he := fun i : grid0.Coords => expert_lt ch (i 0).val
  refine ⟨fun i => ?_, fun i => ?_, fun i => ?_, fun i => ?_, fun i => ?_⟩
  · have h : ∀ a, (cc0_transform_0 (F := F) Facts₀.inb_S1_S1_0 Facts₀.numel1_S1 (words F ch) i a + 1) * S256x1024.size a ≤ S167936x1024.size a := by
      intro a
      rw [map0]
      have hi := lt_grid i
      fin_cases a <;> simp <;> omega
    exact ⟨h, .inr (Affine.block_words_dvd (s := S167936x1024) (p := EltTy.packing .bf16) (by decide) (by decide))⟩
  · exact ⟨fun a => by rw [map1]; exact inside _ (he i) 1024 2048 a, .inl rfl⟩
  · exact ⟨fun a => by rw [map2]; exact inside _ (he i) 1 2048 a, .inl rfl⟩
  · exact ⟨fun a => by rw [map3]; exact inside _ (he i) 1024 1024 a, .inl rfl⟩
  · exact ⟨fun a => by rw [map4]; exact inside _ (he i) 1 1024 a, .inl rfl⟩

/-! ## Which path a grid point runs -/

/-- The point is of a used block: the body's second condition. -/
theorem cond2_iff (i : grid0.Coords) : k0_cond2 i (BitVec.ofNat 32 (used ch)) = 1#1 ↔ (i 0).val < used ch := by
  have hi := lt_grid i
  have hu := used_le ch
  show Scalar.cmpi .ne (Scalar.extui (Scalar.cmpi .slt (BitVec.ofNat 32 (i 0).val) (BitVec.ofNat 32 (used ch)))) 0#32 = 1#1 ↔ _
  rw [Scalar.guard_iff, Scalar.cmpi, IntOp.cmpi_slt, toInt_ofNat (by omega), toInt_ofNat hu]
  omega

/-- It is not: its third. -/
theorem cond3_iff (i : grid0.Coords) : k0_cond3 i (BitVec.ofNat 32 (used ch)) = 1#1 ↔ ¬ (i 0).val < used ch := by
  have hi := lt_grid i
  have hu := used_le ch
  show Scalar.cmpi .ne (Scalar.extui (Scalar.xori (Scalar.cmpi .slt (BitVec.ofNat 32 (i 0).val) (BitVec.ofNat 32 (used ch))) 1#1)) 0#32 = 1#1 ↔ _
  rw [Scalar.guard_iff, ← cond2_iff ch i]
  show _ ↔ ¬ (Scalar.cmpi .ne (Scalar.extui (Scalar.cmpi .slt (BitVec.ofNat 32 (i 0).val) (BitVec.ofNat 32 (used ch)))) 0#32 = 1#1)
  rw [Scalar.guard_iff]
  generalize Scalar.cmpi .slt (BitVec.ofNat 32 (i 0).val) (BitVec.ofNat 32 (used ch)) = b
  revert b; decide

/-- A used point whose expert's weights are not in the scratches yet: its first. -/
theorem cond1_iff (i : grid0.Coords) (e e' : ℕ) (he : e < 32) (he' : e' < 32) :
    Scalar.cmpi .ne (Scalar.extui (Scalar.andi (Scalar.cmpi .slt (BitVec.ofNat 32 (i 0).val) (BitVec.ofNat 32 (used ch)))
      (Scalar.ori (Scalar.cmpi .eq (BitVec.ofNat 32 (i 0).val) 0#32) (Scalar.cmpi .ne (BitVec.ofNat 32 e) (BitVec.ofNat 32 e'))))) 0#32 = 1#1
      ↔ (i 0).val < used ch ∧ ((i 0).val = 0 ∨ e ≠ e') := by
  have hi := lt_grid i
  have hu := used_le ch
  rw [Scalar.guard_iff, Scalar.andi, IntOp.andi_eq_one, Scalar.ori, IntOp.ori_eq_one, Scalar.cmpi, IntOp.cmpi_slt, toInt_ofNat (by omega), toInt_ofNat hu,
    Scalar.cmpi, IntOp.cmpi_eq, Scalar.cmpi, IntOp.cmpi_ne, ofNat_inj (a := (i 0).val) (b := 0) hi (by omega), ne_eq, ofNat_inj (by omega) (by omega)]
  omega

end Cert.ExpertsIdeal.Tables

end
-- ==== Proof.ExpertsPaths.lean ====
/-
  What the experts call's body does at a grid point, on each of its three paths: a point of a new expert converts the
  expert's weights into the scratches and uses them; a used point of the same expert uses what the scratches hold;
  a point past the used blocks stores zeros.
-/
module

public import proofs.«01_k».proof.Proof.ExpertsTables
public import Idealize.ShloMosaic.Lib.Pipeline.ValueKit
public import Idealize.ShloMosaic.Lib.Pointwise
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpertsIdeal.Paths

open Cert.ExpertsIdeal Cert.ExpertsIdeal.Gen Cert.ExpertsIdeal.Tables
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (F : FTy → Type) [FloatOps F]

local notation "𝕄" => MT nD τ sig Unit (Elt F) ℕ (UR sig nD τ) ℕ

variable (c : Dev nD) (i : grid0.Coords) (arg3 : Memref sig .tc .vmem S256x1024 .bf16) (harg3 : arg3.IsWhole)
  (arg4 : Memref sig .tc .vmem S1x1024x2048 .f32) (harg4 : arg4.IsWhole)
  (arg5 : Memref sig .tc .vmem S1x1x2048 .f32) (harg5 : arg5.IsWhole)
  (arg6 : Memref sig .tc .vmem S1x1024x1024 .f32) (harg6 : arg6.IsWhole)
  (arg7 : Memref sig .tc .vmem S1x1x1024 .f32) (harg7 : arg7.IsWhole)
  (arg8 : Memref sig .tc .vmem S256x1024 .bf16) (harg8 : arg8.IsWhole)
  (T0 : S656.Idx → Elt F .i32) (T1 : S1.Idx → Elt F .i32)
  (x0 : S256x1024.Idx → Elt F .bf16) (x1 : S1x1024x2048.Idx → Elt F .f32) (x2 : S1x1x2048.Idx → Elt F .f32)
  (x3 : S1x1024x1024.Idx → Elt F .f32) (x4 : S1x1x1024.Idx → Elt F .f32)
  (xa0 : Buf (Elt F) ((c : Thread nD τ).loc cc0_scratch0)) (xa1 : Buf (Elt F) ((c : Thread nD τ).loc cc0_scratch1))

/-- A word the body reads of the first table. -/
abbrev wordAt (o : Fin 1 → ℕ) (h : ∀ a, o a + S1.size a ≤ S656.size a) : BitVec 32 :=
  View.readAt (Elt F) (tbM0_0).view (Rect.unit (s := S656) o S1.size h).toLoadRect T0 (Shape.Idx.first (numel1_S1.symm ▸ Nat.one_pos))

/-- The word it reads of the second. -/
abbrev wordN : BitVec 32 :=
  View.readAt (Elt F) (tbM0_1).view (Rect.unit (s := S1) ![0] S1.size inb_S1_S1_0).toLoadRect T1 (Shape.Idx.first (numel1_S1.symm ▸ Nat.one_pos))

/-- The condition under which a point converts its expert's weights. -/
abbrev New : Prop := Scalar.cmpi .ne (Scalar.extui (Scalar.andi (Scalar.cmpi .slt (BitVec.ofNat 32 (i 0).val) (wordN F T1))
  (Scalar.ori (Scalar.cmpi .eq (BitVec.ofNat 32 (i 0).val) 0#32)
    (Scalar.cmpi .ne (wordAt F T0 (k0_off1 i) (k0_off1_inb i)) (wordAt F T0 (k0_off2 i) (k0_off2_inb i)))))) 0#32 = 1#1

variable {F}

/-! A whole-buffer read of a block, and of a scratch -/

theorem rdx : View.readAt (Elt F) arg3.view (Rect.unit (s := S256x1024) ![0, 0] S256x1024.size inb_S256x1024_S256x1024_0_0).toLoadRect (arg3.view.rep x0) = x0 :=
  View.readAt_rep_full arg3.view x0 _
theorem rd1 : View.readAt (Elt F) arg4.view (Rect.unit (s := S1x1024x2048) ![0, 0, 0] S1x1024x2048.size inb_S1x1024x2048_S1x1024x2048_0_0_0).toLoadRect (arg4.view.rep x1) = x1 :=
  View.readAt_rep_full arg4.view x1 _
theorem rdb : View.readAt (Elt F) arg5.view (Rect.unit (s := S1x1x2048) ![0, 0, 0] S1x1x2048.size inb_S1x1x2048_S1x1x2048_0_0_0).toLoadRect (arg5.view.rep x2) = x2 :=
  View.readAt_rep_full arg5.view x2 _
theorem rd3 : View.readAt (Elt F) arg6.view (Rect.unit (s := S1x1024x1024) ![0, 0, 0] S1x1024x1024.size inb_S1x1024x1024_S1x1024x1024_0_0_0).toLoadRect (arg6.view.rep x3) = x3 :=
  View.readAt_rep_full arg6.view x3 _
theorem rdc : View.readAt (Elt F) arg7.view (Rect.unit (s := S1x1x1024) ![0, 0, 0] S1x1x1024.size inb_S1x1x1024_S1x1x1024_0_0_0).toLoadRect (arg7.view.rep x4) = x4 :=
  View.readAt_rep_full arg7.view x4 _
theorem rds0 : View.readAt (Elt F) (scM0_0).view (Rect.unit (s := S1024x2048) ![0, 0] S1024x2048.size inb_S1024x2048_S1024x2048_0_0).toLoadRect xa0 = (scM0_0).view.read (Elt F) xa0 :=
  View.readAt_full (scM0_0).view xa0 _
theorem rds1 : View.readAt (Elt F) (scM0_1).view (Rect.unit (s := S1024x1024) ![0, 0] S1024x1024.size inb_S1024x1024_S1024x1024_0_0).toLoadRect xa1 = (scM0_1).view.read (Elt F) xa1 :=
  View.readAt_full (scM0_1).view xa1 _

/-- What a point reads and leaves as it was: the inputs' blocks and the body's halves of the tables. -/
abbrev reads : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tbM0_0.view.loc (c : Thread nD τ) ↦{fullShare.right} T0)
    ∗ (tbM0_1.view.loc (c : Thread nD τ) ↦{fullShare.right} T1))

/-- The scratches at given contents. -/
abbrev scratches (a0 : Buf (Elt F) ((c : Thread nD τ).loc cc0_scratch0)) (a1 : Buf (Elt F) ((c : Thread nD τ).loc cc0_scratch1)) : sProp 𝕄 :=
  iprop((scM0_0.view.loc (c : Thread nD τ) ↦{fullShare} a0) ∗ (scM0_1.view.loc (c : Thread nD τ) ↦{fullShare} a1))

/-- The body run from the scratches at `xa0`, `xa1`: it leaves `out` in the output's block, and scratches of which `P` holds. -/
abbrev Leaves (out : S256x1024.Idx → Elt F .bf16)
    (P : Buf (Elt F) ((c : Thread nD τ).loc cc0_scratch0) → Buf (Elt F) ((c : Thread nD τ).loc cc0_scratch1) → Prop) : Prop :=
  ∀ K : PUnit → sProp 𝕄,
    iprop(reads c arg3 arg4 arg5 arg6 arg7 T0 T1 x0 x1 x2 x3 x4 ∗ (∃ d, owns (c : Thread nD τ) arg8 fullShare d) ∗ scratches c xa0 xa1
      ∗ (iprop(reads c arg3 arg4 arg5 arg6 arg7 T0 T1 x0 x1 x2 x3 x4 ∗ owns (c : Thread nD τ) arg8 fullShare out
          ∗ (∃ a0 a1, ⌜P a0 a1⌝ ∗ scratches c a0 a1)) -∗ K ⟨⟩))
      ⊢ wp frame (wpE (defs₀ (F := F)) Variants.none c none) Set.univ
          (cc0_experts i tbM0_0 (Memref.isWhole_whole _) tbM0_1 (Memref.isWhole_whole _) arg3 harg3 arg4 harg4 arg5 harg5 arg6 harg6
            arg7 harg7 arg8 harg8 scM0_0 (Memref.isWhole_whole _) scM0_1 (Memref.isWhole_whole _)) K

variable {c i arg3 harg3 arg4 harg4 arg5 harg5 arg6 harg6 arg7 harg7 arg8 harg8 T0 T1 x0 x1 x2 x3 x4 xa0 xa1} in
/-- Less may be said of the scratches. -/
theorem Leaves.mono {out : S256x1024.Idx → Elt F .bf16}
    {P Q : Buf (Elt F) ((c : Thread nD τ).loc cc0_scratch0) → Buf (Elt F) ((c : Thread nD τ).loc cc0_scratch1) → Prop}
    (h : Leaves c i arg3 harg3 arg4 harg4 arg5 harg5 arg6 harg6 arg7 harg7 arg8 harg8 T0 T1 x0 x1 x2 x3 x4 xa0 xa1 out P)
    (hPQ : ∀ a0 a1, P a0 a1 → Q a0 a1) :
    Leaves c i arg3 harg3 arg4 harg4 arg5 harg5 arg6 harg6 arg7 harg7 arg8 harg8 T0 T1 x0 x1 x2 x3 x4 xa0 xa1 out Q := fun K => by
  refine BIBase.Entails.trans ?_ (h K)
  iintro ⟨Hr, Ho, Hs, Hk⟩
  isplitl [Hr]; · iexact Hr
  isplitl [Ho]; · iexact Ho
  isplitl [Hs]; · iexact Hs
  iintro ⟨Hr, Ho, ⟨%a0, %a1, %hp, Hs⟩⟩
  iapply Hk
  isplitl [Hr]; · iexact Hr
  isplitl [Ho]; · iexact Ho
  iexists a0, a1; isplitr; swap
  · iexact Hs
  · ipureintro; exact hPQ a0 a1 hp

set_option backward.proofsInPublic true in
set_option maxHeartbeats 8000000 in
/-- A point of a new expert converts the expert's weights and uses them. -/
theorem leaves_new (hc0 : New F i T0 T1) (h2 : k0_cond2 i (wordN F T1) = 1#1) (h3 : ¬k0_cond3 i (wordN F T1) = 1#1) :
    Leaves c i arg3 harg3 arg4 harg4 arg5 harg5 arg6 harg6 arg7 harg7 arg8 harg8 T0 T1 x0 x1 x2 x3 x4 xa0 xa1
      (k0_pay3 x0 (k0_pay1 x1) x2 (k0_pay2 x3) x4)
      fun a0 a1 => (scM0_0).view.read (Elt F) a0 = k0_pay1 x1 ∧ (scM0_1).view.read (Elt F) a1 = k0_pay2 x3 := by
  intro K
  unfold owns
  rw [cc0_experts_eq_skeleton]; unfold cc0_experts_skel
  iintro ⟨⟨H0, H1, H2, H3, H4, HT0, HT1⟩, ⟨%d5, %f5, -, HO5⟩, ⟨HS0, HS1⟩, Hk⟩
  have hS0 : scM0_0.IsWhole := Memref.isWhole_whole _
  have hS1 : scM0_1.IsWhole := Memref.isWhole_whole _
  have hT0 : tbM0_0.IsWhole := Memref.isWhole_whole _
  have hT1 : tbM0_1.IsWhole := Memref.isWhole_whole _
  sl_exec! (disch := first
    | (guard_target = Scalar.cmpi = _; exact hc0)
    | (guard_target = k0_cond2 _ _ = _; exact h2)
    | (guard_target = ¬(k0_cond3 _ _ = _); exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro
      unfold leaves_new.sl.HO5_1
      rw [rdx, rdb, rdc]
      delta leaves_new.sl.v20 leaves_new.sl.v42
      unfold leaves_new.sl.HS0_1 leaves_new.sl.HS1_1
      rw [rd1, rd3, View.readCov_full, View.readCov_full]
      exact View.read_writes_full _ _ inb_S256x1024_S256x1024_0_0 _ []
  iexists _, _; isplitr; swap
  · isplitl [HS0]; · iexact HS0
    iexact HS1
  · ipureintro
    unfold leaves_new.sl.HS0_1 leaves_new.sl.HS1_1
    rw [rd1, rd3]
    exact ⟨View.read_writes_full (scM0_0).view _ inb_S1024x2048_S1024x2048_0_0 _ [],
      View.read_writes_full (scM0_1).view _ inb_S1024x1024_S1024x1024_0_0 _ []⟩

set_option backward.proofsInPublic true in
set_option maxHeartbeats 8000000 in
/-- A used point of the expert before uses what the scratches hold. -/
theorem leaves_same (hc0 : ¬New F i T0 T1) (h2 : k0_cond2 i (wordN F T1) = 1#1) (h3 : ¬k0_cond3 i (wordN F T1) = 1#1) :
    Leaves c i arg3 harg3 arg4 harg4 arg5 harg5 arg6 harg6 arg7 harg7 arg8 harg8 T0 T1 x0 x1 x2 x3 x4 xa0 xa1
      (k0_pay3 x0 ((scM0_0).view.read (Elt F) xa0) x2 ((scM0_1).view.read (Elt F) xa1) x4)
      fun a0 a1 => a0 = xa0 ∧ a1 = xa1 := by
  intro K
  unfold owns
  rw [cc0_experts_eq_skeleton]; unfold cc0_experts_skel
  iintro ⟨⟨H0, H1, H2, H3, H4, HT0, HT1⟩, ⟨%d5, %f5, -, HO5⟩, ⟨HS0, HS1⟩, Hk⟩
  have hS0 : scM0_0.IsWhole := Memref.isWhole_whole _
  have hS1 : scM0_1.IsWhole := Memref.isWhole_whole _
  have hT0 : tbM0_0.IsWhole := Memref.isWhole_whole _
  have hT1 : tbM0_1.IsWhole := Memref.isWhole_whole _
  sl_exec! (disch := first
    | (guard_target = ¬(Scalar.cmpi = _); exact hc0)
    | (guard_target = k0_cond2 _ _ = _; exact h2)
    | (guard_target = ¬(k0_cond3 _ _ = _); exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro
      unfold leaves_same.sl.HO5_1
      rw [rdx, rdb, rdc, rds0, rds1]
      exact View.read_writes_full _ _ inb_S256x1024_S256x1024_0_0 _ []
  iexists _, _; isplitr; swap
  · isplitl [HS0]; · iexact HS0
    iexact HS1
  · ipureintro
    exact ⟨rfl, rfl⟩

set_option backward.proofsInPublic true in
set_option maxHeartbeats 8000000 in
/-- A point past the used blocks stores zeros. -/
theorem leaves_zero (hc0 : ¬New F i T0 T1) (h2 : ¬k0_cond2 i (wordN F T1) = 1#1) (h3 : k0_cond3 i (wordN F T1) = 1#1) :
    Leaves c i arg3 harg3 arg4 harg4 arg5 harg5 arg6 harg6 arg7 harg7 arg8 harg8 T0 T1 x0 x1 x2 x3 x4 xa0 xa1
      (k0_pay4 (F := F))
      fun a0 a1 => a0 = xa0 ∧ a1 = xa1 := by
  intro K
  unfold owns
  rw [cc0_experts_eq_skeleton]; unfold cc0_experts_skel
  iintro ⟨⟨H0, H1, H2, H3, H4, HT0, HT1⟩, ⟨%d5, %f5, -, HO5⟩, ⟨HS0, HS1⟩, Hk⟩
  have hS0 : scM0_0.IsWhole := Memref.isWhole_whole _
  have hS1 : scM0_1.IsWhole := Memref.isWhole_whole _
  have hT0 : tbM0_0.IsWhole := Memref.isWhole_whole _
  have hT1 : tbM0_1.IsWhole := Memref.isWhole_whole _
  sl_exec! (disch := first
    | (guard_target = ¬(Scalar.cmpi = _); exact hc0)
    | (guard_target = ¬(k0_cond2 _ _ = _); exact h2)
    | (guard_target = k0_cond3 _ _ = _; exact h3))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro
      unfold leaves_zero.sl.HO5_1
      exact View.read_writes_full _ _ inb_S256x1024_S256x1024_0_0 _ []
  iexists _, _; isplitr; swap
  · isplitl [HS0]; · iexact HS0
    iexact HS1
  · ipureintro
    exact ⟨rfl, rfl⟩

end Cert.ExpertsIdeal.Paths

end
-- ==== Proof.ExpertsRun.lean ====
/-
  The experts call at any tables its precondition admits: the pipeline's data in closed form — what each grid point
  leaves in the output's block and in the two scratches —, the body's obligation at every point, and the run.
-/
module

public import proofs.«01_k».proof.Proof.ExpertsTables
public import proofs.«01_k».proof.Proof.ExpertsPaths
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpertsIdeal.Run

open Cert.ExpertsIdeal Cert.ExpertsIdeal.Gen Cert.ExpertsIdeal.Tables Cert.ExpertsIdeal.Paths
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

local notation "𝕄" => MT nD τ sig Unit (Elt F) ℕ (UR sig nD τ) ℕ

/-- The resource algebra of the pipeline's staging cells, embedded whole. -/
abbrev EP : Emb (UR sig nD τ) 𝕄 := emb₁

variable (ch : Tab)

/-- The tables with the side condition they meet, and the pipeline at them. -/
def adm : (pcfg0 (F := F)).Adm := ⟨words F ch, ok F ch⟩
abbrev cfgA : Pipeline.Cfg sig Λ₀ := cfg0 (F := F) (adm F ch)
abbrev pcs : Fin 1 → Pipeline.Cfg sig Λ₀ := Pipeline.pin (pcfgs (F := F)) fun _ => adm F ch

/-- A point's coordinates. -/
abbrev crd (t : Fin (cfgA F ch).N) : (cfgA F ch).grid.Coords := (cfgA F ch).grid.coords t

theorem coords_val : ∀ t : Fin grid0.N, (grid0.coords t 0).val = t.val := by decide +kernel

theorem crd_val (t : Fin (cfgA F ch).N) : ((crd F ch t) 0).val = t.val := coords_val t

theorem point_lt (t : Fin (cfgA F ch).N) : t.val < 656 := by rw [← crd_val F ch t]; exact lt_grid _

/-! ## The staging buffers and the blocks -/

abbrev ms0_0 (t : Fin (cfgA F ch).N) : Memref sig .tc .vmem S256x1024 .bf16 := spec0_0.stage ((cfgA F ch).slots t (0 : Fin 6))
abbrev hs0_0 (t : Fin (cfgA F ch).N) : (ms0_0 F ch t).IsWhole := hstage0_0 (((cfgA F ch).slots t (0 : Fin 6)).cast nbuf0_0)
abbrev ms0_1 (t : Fin (cfgA F ch).N) : Memref sig .tc .vmem S1x1024x2048 .f32 := spec0_1.stage ((cfgA F ch).slots t (1 : Fin 6))
abbrev hs0_1 (t : Fin (cfgA F ch).N) : (ms0_1 F ch t).IsWhole := hstage0_1 (((cfgA F ch).slots t (1 : Fin 6)).cast nbuf0_1)
abbrev ms0_2 (t : Fin (cfgA F ch).N) : Memref sig .tc .vmem S1x1x2048 .f32 := spec0_2.stage ((cfgA F ch).slots t (2 : Fin 6))
abbrev hs0_2 (t : Fin (cfgA F ch).N) : (ms0_2 F ch t).IsWhole := hstage0_2 (((cfgA F ch).slots t (2 : Fin 6)).cast nbuf0_2)
abbrev ms0_3 (t : Fin (cfgA F ch).N) : Memref sig .tc .vmem S1x1024x1024 .f32 := spec0_3.stage ((cfgA F ch).slots t (3 : Fin 6))
abbrev hs0_3 (t : Fin (cfgA F ch).N) : (ms0_3 F ch t).IsWhole := hstage0_3 (((cfgA F ch).slots t (3 : Fin 6)).cast nbuf0_3)
abbrev ms0_4 (t : Fin (cfgA F ch).N) : Memref sig .tc .vmem S1x1x1024 .f32 := spec0_4.stage ((cfgA F ch).slots t (4 : Fin 6))
abbrev hs0_4 (t : Fin (cfgA F ch).N) : (ms0_4 F ch t).IsWhole := hstage0_4 (((cfgA F ch).slots t (4 : Fin 6)).cast nbuf0_4)
abbrev ms0_5 (t : Fin (cfgA F ch).N) : Memref sig .tc .vmem S256x1024 .bf16 := spec0_5.stage ((cfgA F ch).slots t (5 : Fin 6))
abbrev hs0_5 (t : Fin (cfgA F ch).N) : (ms0_5 F ch t).IsWhole := hstage0_5 (((cfgA F ch).slots t (5 : Fin 6)).cast nbuf0_5)

variable {F} (m : (ℓ : Loc nD τ sig) → Buf (Elt F) ℓ) (ρ : Dev nD → PrngReg)

/-- A core's buffers when the pipeline is entered: after the biases' unit axes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-! No host operation writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))

/-- A window's block at a point, read off its array as the pipeline finds it. -/
def iblk (c : Dev nD) (w : Fin (cfgA F ch).W) (t : Fin (cfgA F ch).N) : (((cfgA F ch).win w).xblock (crd F ch t)).Idx → Elt F ((cfgA F ch).win w).elt :=
  (((cfgA F ch).win w).blk t).view.read (Elt F) (V m c (Pipeline.arrRef spec0 w))

/-! ## Which path a point runs -/

theorem new_iff (t : Fin (cfgA F ch).N) : New F (crd F ch t) (tab0 ch) (tab1 ch)
    ↔ t.val < used ch ∧ (t.val = 0 ∨ expert ch t.val ≠ expert ch (t.val - 1)) := by
  unfold New wordAt wordN
  rw [read1, read0 F ch _ _ _ (off1 _), read0 F ch _ _ _ (off2 _), cond1_iff ch _ _ _ (expert_lt ch _) (expert_lt ch _), crd_val]

theorem used_iff (t : Fin (cfgA F ch).N) : k0_cond2 (crd F ch t) (wordN F (tab1 ch)) = 1#1 ↔ t.val < used ch := by
  unfold wordN
  rw [read1, cond2_iff, crd_val]

theorem unused_iff (t : Fin (cfgA F ch).N) : k0_cond3 (crd F ch t) (wordN F (tab1 ch)) = 1#1 ↔ ¬ t.val < used ch := by
  unfold wordN
  rw [read1, cond3_iff, crd_val]

/-- Every point stores the output's block. -/
theorem idle5 (t : Fin (cfgA F ch).N) : (cfgA F ch).idle (5 : Fin 6) ((cfgA F ch).grid.coords t) = false := by
  have hw : (words F ch).atD 1 ![0] = BitVec.ofNat 32 (used ch) := by
    unfold Pipeline.Prefetch.Contents.atD
    rw [dif_pos (by decide)]
    exact word1 ch _
  show (!(k0_cond2 (crd F ch t) ((words F ch).atD 1 ![0]) == 1#1) && !(k0_cond3 (crd F ch t) ((words F ch).atD 1 ![0]) == 1#1)) = false
  rw [hw]
  by_cases h : ((crd F ch t) 0).val < used ch
  · rw [(cond2_iff ch _).2 h]; rfl
  · rw [(cond3_iff ch _).2 h]; simp

/-! ## The pipeline's data -/

/-- What a point leaves in the output's block: the expert's result on the rows of a used block, zeros past them. -/
def outv (c : Dev nD) (t : Fin (cfgA F ch).N) : S256x1024.Idx → Elt F .bf16 :=
  if t.val < used ch then
    k0_pay3 (iblk ch m c (0 : Fin 6) t) (k0_pay1 (iblk ch m c (1 : Fin 6) t)) (iblk ch m c (2 : Fin 6) t)
      (k0_pay2 (iblk ch m c (3 : Fin 6) t)) (iblk ch m c (4 : Fin 6) t)
  else k0_pay4 (F := F)

/-- What the scratches hold after a point: a used point's expert's weights. -/
abbrev Held (c : Dev nD) (t : Fin (cfgA F ch).N) (a0 : Buf (Elt F) ((c : Thread nD τ).loc cc0_scratch0))
    (a1 : Buf (Elt F) ((c : Thread nD τ).loc cc0_scratch1)) : Prop :=
  t.val < used ch → (scM0_0).view.read (Elt F) a0 = k0_pay1 (iblk ch m c (1 : Fin 6) t)
    ∧ (scM0_1).view.read (Elt F) a1 = k0_pay2 (iblk ch m c (3 : Fin 6) t)

/-- Before a point: the scratches hold what the point before left; the body's halves of the tables. -/
def Phi (c : Dev nD) (t : Fin ((cfgA F ch).N + 1)) : sProp 𝕄 :=
  iprop((∃ a0 a1, ⌜∀ s : Fin (cfgA F ch).N, s.val + 1 = t.val → Held ch m c s a0 a1⌝ ∗ scratches c a0 a1)
    ∗ (tbM0_0.view.loc (c : Thread nD τ) ↦{fullShare.right} tab0 ch) ∗ (tbM0_1.view.loc (c : Thread nD τ) ↦{fullShare.right} tab1 ch))

/-- The proof data of the pipeline on a core. -/
def dats (_ : Fin 1) (c : Dev nD) : Dat τ (Elt F) Unit ℕ (UR sig nD τ) ℕ (cfgA F ch) c where
  A w := V m c (Pipeline.arrRef spec0 w)
  after w t := match w with
    | ⟨0, _⟩ => iblk ch m c (0 : Fin 6) t
    | ⟨1, _⟩ => iblk ch m c (1 : Fin 6) t
    | ⟨2, _⟩ => iblk ch m c (2 : Fin 6) t
    | ⟨3, _⟩ => iblk ch m c (3 : Fin 6) t
    | ⟨4, _⟩ => iblk ch m c (4 : Fin 6) t
    | ⟨5, _⟩ => outv ch m c t
  Φ t := Phi ch m c t
  q _ := fullShare
  owed _ := 0

theorem after0_0 (c : Dev nD) (t : Fin (cfgA F ch).N) : (dats ch m 0 c).after (0 : Fin 6) t = iblk ch m c (0 : Fin 6) t := rfl
theorem after0_1 (c : Dev nD) (t : Fin (cfgA F ch).N) : (dats ch m 0 c).after (1 : Fin 6) t = iblk ch m c (1 : Fin 6) t := rfl
theorem after0_2 (c : Dev nD) (t : Fin (cfgA F ch).N) : (dats ch m 0 c).after (2 : Fin 6) t = iblk ch m c (2 : Fin 6) t := rfl
theorem after0_3 (c : Dev nD) (t : Fin (cfgA F ch).N) : (dats ch m 0 c).after (3 : Fin 6) t = iblk ch m c (3 : Fin 6) t := rfl
theorem after0_4 (c : Dev nD) (t : Fin (cfgA F ch).N) : (dats ch m 0 c).after (4 : Fin 6) t = iblk ch m c (4 : Fin 6) t := rfl
theorem after0_5 (c : Dev nD) (t : Fin (cfgA F ch).N) : (dats ch m 0 c).after (5 : Fin 6) t = outv ch m c t := rfl

/-! An input's staging buffer holds its block, fetched at the point or kept from the point before -/

theorem before0_0 (c : Dev nD) (t : Fin (cfgA F ch).N) (d) : (dats ch m 0 c).before (0 : Fin 6) t d = iblk ch m c (0 : Fin 6) t :=
  ((dats ch m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA F ch).N) (d) : (dats ch m 0 c).before (1 : Fin 6) t d = iblk ch m c (1 : Fin 6) t :=
  ((dats ch m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA F ch).N) (d) : (dats ch m 0 c).before (2 : Fin 6) t d = iblk ch m c (2 : Fin 6) t :=
  ((dats ch m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA F ch).N) (d) : (dats ch m 0 c).before (3 : Fin 6) t d = iblk ch m c (3 : Fin 6) t :=
  ((dats ch m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA F ch).N) (d) : (dats ch m 0 c).before (4 : Fin 6) t d = iblk ch m c (4 : Fin 6) t :=
  ((dats ch m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Two points of one expert take one block of the first weights, -/
theorem same1 (c : Dev nD) (s t : Fin (cfgA F ch).N) (h : expert ch s.val = expert ch t.val) :
    iblk ch m c (1 : Fin 6) s = iblk ch m c (1 : Fin 6) t := by
  have hix : ((cfgA F ch).win (1 : Fin 6)).index s = ((cfgA F ch).win (1 : Fin 6)).index t := by
    show cc0_transform_1 (F := F) _ _ (words F ch) (crd F ch s) = cc0_transform_1 (F := F) _ _ (words F ch) (crd F ch t)
    rw [map1, map1, crd_val, crd_val, h]
  have d : ((cfgA F ch).win (1 : Fin 6)).block.Idx → Elt F ((cfgA F ch).win (1 : Fin 6)).elt := iblk ch m c (1 : Fin 6) s
  exact (dats ch m 0 c).fetched_congr (1 : Fin 6) hix rfl d

/-- and of the second. -/
theorem same3 (c : Dev nD) (s t : Fin (cfgA F ch).N) (h : expert ch s.val = expert ch t.val) :
    iblk ch m c (3 : Fin 6) s = iblk ch m c (3 : Fin 6) t := by
  have hix : ((cfgA F ch).win (3 : Fin 6)).index s = ((cfgA F ch).win (3 : Fin 6)).index t := by
    show cc0_transform_3 (F := F) _ _ (words F ch) (crd F ch s) = cc0_transform_3 (F := F) _ _ (words F ch) (crd F ch t)
    rw [map3, map3, crd_val, crd_val, h]
  have d : ((cfgA F ch).win (3 : Fin 6)).block.Idx → Elt F ((cfgA F ch).win (3 : Fin 6)).elt := iblk ch m c (3 : Fin 6) s
  exact (dats ch m 0 c).fetched_congr (3 : Fin 6) hix rfl d

/-! ## The body's obligation -/

/-- The body at a point on its staging buffers. -/
abbrev bodyAt0 (t : Fin (cfgA F ch).N) : Prog (TpuEff nD τ sig (Elt F) Λ₀ .tc) PUnit :=
  cc0_experts (crd F ch t) (Memref.whole main_arg0) (Memref.isWhole_whole _) (Memref.whole main_arg1) (Memref.isWhole_whole _) (ms0_0 F ch t) (hs0_0 F ch t) (ms0_1 F ch t) (hs0_1 F ch t) (ms0_2 F ch t) (hs0_2 F ch t) (ms0_3 F ch t) (hs0_3 F ch t) (ms0_4 F ch t) (hs0_4 F ch t) (ms0_5 F ch t) (hs0_5 F ch t) (Memref.whole cc0_scratch0) (Memref.isWhole_whole _) (Memref.whole cc0_scratch1) (Memref.isWhole_whole _)

/-- The body at a point, path by path, from scratches that hold what the point before left. -/
theorem leaves (c : Dev nD) (t : Fin (cfgA F ch).N) (a0 : Buf (Elt F) ((c : Thread nD τ).loc cc0_scratch0))
    (a1 : Buf (Elt F) ((c : Thread nD τ).loc cc0_scratch1)) (ha : ∀ s : Fin (cfgA F ch).N, s.val + 1 = t.val → Held ch m c s a0 a1) :
    Leaves c (crd F ch t) (ms0_0 F ch t) (hs0_0 F ch t) (ms0_1 F ch t) (hs0_1 F ch t) (ms0_2 F ch t) (hs0_2 F ch t) (ms0_3 F ch t) (hs0_3 F ch t) (ms0_4 F ch t) (hs0_4 F ch t) (ms0_5 F ch t) (hs0_5 F ch t)
      (tab0 ch) (tab1 ch) (iblk ch m c (0 : Fin 6) t) (iblk ch m c (1 : Fin 6) t) (iblk ch m c (2 : Fin 6) t) (iblk ch m c (3 : Fin 6) t) (iblk ch m c (4 : Fin 6) t) a0 a1
      (outv ch m c t) (Held ch m c t) := by
  by_cases hc0 : New F (crd F ch t) (tab0 ch) (tab1 ch)
  · have hu : t.val < used ch := ((new_iff ch t).1 hc0).1
    rw [outv, if_pos hu]
    exact (leaves_new c (crd F ch t) (ms0_0 F ch t) (hs0_0 F ch t) (ms0_1 F ch t) (hs0_1 F ch t) (ms0_2 F ch t) (hs0_2 F ch t) (ms0_3 F ch t) (hs0_3 F ch t) (ms0_4 F ch t) (hs0_4 F ch t) (ms0_5 F ch t) (hs0_5 F ch t)  (tab0 ch) (tab1 ch) (iblk ch m c (0 : Fin 6) t) (iblk ch m c (1 : Fin 6) t) (iblk ch m c (2 : Fin 6) t) (iblk ch m c (3 : Fin 6) t) (iblk ch m c (4 : Fin 6) t) a0 a1 hc0
      ((used_iff ch t).2 hu) fun h => (unused_iff ch t).1 h hu).mono fun b0 b1 hb _ => hb
  by_cases hu : t.val < used ch
  · have hold : t.val ≠ 0 ∧ expert ch t.val = expert ch (t.val - 1) := by
      by_contra h
      exact hc0 ((new_iff ch t).2 ⟨hu, by by_cases h0 : t.val = 0; exacts [.inl h0, .inr fun he => h ⟨h0, he⟩]⟩)
    have hlast : t.val - 1 < (cfgA F ch).N := by have := t.isLt; omega
    obtain ⟨hw0, hw1⟩ := ha ⟨t.val - 1, hlast⟩ (by show t.val - 1 + 1 = t.val; omega) (by show t.val - 1 < used ch; omega)
    rw [same1 ch m c _ t hold.2.symm] at hw0
    rw [same3 ch m c _ t hold.2.symm] at hw1
    rw [outv, if_pos hu, ← hw0, ← hw1]
    exact (leaves_same c (crd F ch t) (ms0_0 F ch t) (hs0_0 F ch t) (ms0_1 F ch t) (hs0_1 F ch t) (ms0_2 F ch t) (hs0_2 F ch t) (ms0_3 F ch t) (hs0_3 F ch t) (ms0_4 F ch t) (hs0_4 F ch t) (ms0_5 F ch t) (hs0_5 F ch t)  (tab0 ch) (tab1 ch) (iblk ch m c (0 : Fin 6) t) (iblk ch m c (1 : Fin 6) t) (iblk ch m c (2 : Fin 6) t) (iblk ch m c (3 : Fin 6) t) (iblk ch m c (4 : Fin 6) t) a0 a1 hc0
      ((used_iff ch t).2 hu) fun h => (unused_iff ch t).1 h hu).mono fun b0 b1 hb _ => by rw [hb.1, hb.2]; exact ⟨hw0, hw1⟩
  · rw [outv, if_neg hu]
    exact (leaves_zero c (crd F ch t) (ms0_0 F ch t) (hs0_0 F ch t) (ms0_1 F ch t) (hs0_1 F ch t) (ms0_2 F ch t) (hs0_2 F ch t) (ms0_3 F ch t) (hs0_3 F ch t) (ms0_4 F ch t) (hs0_4 F ch t) (ms0_5 F ch t) (hs0_5 F ch t)  (tab0 ch) (tab1 ch) (iblk ch m c (0 : Fin 6) t) (iblk ch m c (1 : Fin 6) t) (iblk ch m c (2 : Fin 6) t) (iblk ch m c (3 : Fin 6) t) (iblk ch m c (4 : Fin 6) t) a0 a1 hc0
      (fun h => hu ((used_iff ch t).1 h)) ((unused_iff ch t).2 hu)).mono fun b0 b1 _ h => absurd h hu

set_option maxHeartbeats 4000000 in
/-- The body at a point on the pipeline's buffers: the inputs hold their blocks, and the scratches what the point before left. -/
theorem sound_body (c : Dev nD) (t : Fin (cfgA F ch).N) :
    iprop((dats ch m 0 c).Φ t.castSucc ∗ (dats ch m 0 c).owesAt () t.castSucc
        ∗ (∃ d, owns (c : Thread nD τ) (ms0_0 F ch t) fullShare ((dats ch m 0 c).before (0 : Fin 6) t d))
        ∗ (∃ d, owns (c : Thread nD τ) (ms0_1 F ch t) fullShare ((dats ch m 0 c).before (1 : Fin 6) t d))
        ∗ (∃ d, owns (c : Thread nD τ) (ms0_2 F ch t) fullShare ((dats ch m 0 c).before (2 : Fin 6) t d))
        ∗ (∃ d, owns (c : Thread nD τ) (ms0_3 F ch t) fullShare ((dats ch m 0 c).before (3 : Fin 6) t d))
        ∗ (∃ d, owns (c : Thread nD τ) (ms0_4 F ch t) fullShare ((dats ch m 0 c).before (4 : Fin 6) t d))
        ∗ (∃ d, owns (c : Thread nD τ) (ms0_5 F ch t) fullShare ((dats ch m 0 c).before (5 : Fin 6) t d)))
      ⊢ wp frame (wpE (defs₀ (F := F)) Variants.none c none) Set.univ (bodyAt0 ch t) fun _ =>
          iprop((dats ch m 0 c).Φ t.succ ∗ (dats ch m 0 c).owesAt () t.succ
            ∗ bigSep Finset.univ fun w : Fin (cfgA F ch).W =>
                match (cfgA F ch).idle w ((cfgA F ch).grid.coords t) with
                | true =>
                  match ((cfgA F ch).win w).flush t with
                  | false => iprop(∃ d, owns (c : Thread nD τ) (((cfgA F ch).win w).stage ((cfgA F ch).slots t w)) fullShare ((dats ch m 0 c).before w t d))
                  | true => owns (c : Thread nD τ) (((cfgA F ch).win w).stage ((cfgA F ch).slots t w)) fullShare ((dats ch m 0 c).after w t)
                | false => owns (c : Thread nD τ) (((cfgA F ch).win w).stage ((cfgA F ch).slots t w)) fullShare ((dats ch m 0 c).after w t)) := by
  rw [bigSep_W0]
  rewrite [idle5 ch t]
  simp only [before0_0, before0_1, before0_2, before0_3, before0_4, after0_0, after0_1, after0_2, after0_3, after0_4, after0_5]
  rewrite [show (dats ch m 0 c).Φ t.succ = Phi ch m c t.succ from rfl, show (dats ch m 0 c).Φ t.castSucc = Phi ch m c t.castSucc from rfl,
    show (dats ch m 0 c).owesAt () t.succ = (dats ch m 0 c).owesAt () t.castSucc from rfl]
  unfold Phi; simp only [Fin.val_castSucc, Fin.val_succ]
  iintro ⟨⟨⟨%a0, %a1, %ha, HS0, HS1⟩, HT0, HT1⟩, Ho, ⟨%d0, H0⟩, ⟨%d1, H1⟩, ⟨%d2, H2⟩, ⟨%d3, H3⟩, ⟨%d4, H4⟩, ⟨%d5, H5⟩⟩
  iapply (leaves ch m c t a0 a1 ha _)
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexists _; iexact H5
  isplitl [HS0 HS1]
  · isplitl [HS0]; · iexact HS0
    iexact HS1
  iintro ⟨⟨H0, H1, H2, H3, H4, HT0, HT1⟩, H5, ⟨%b0, %b1, %hb, HS0, HS1⟩⟩
  isplitl [HS0 HS1 HT0 HT1]
  · isplitl [HS0 HS1]
    · iexists b0, b1; isplitr; swap
      · isplitl [HS0]; · iexact HS0
        iexact HS1
      · ipureintro; intro s hs; obtain rfl : s = t := Fin.ext (by omega); exact hb
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The body's obligation, at every point. -/
theorem body_obligation (c : Dev nD) : BodyObligation (dats ch m 0 c) (defs₀ (F := F)) Variants.none () Set.univ := fun t => by
  rw [bigSep_W0]
  exact sound_body ch m c t

/-! ## The launch -/

/-- A launch memory whose tables are the given ones. -/
def Pinned : Prop := (∀ c : Dev nD, m ((c : Thread nD τ).loc main_arg0) = tab0 ch) ∧ ∀ c : Dev nD, m ((c : Thread nD τ).loc main_arg1) = tab1 ch

/-- The launch's resource. -/
def u₀ : UR sig nD τ :=
  initOf (Pipeline.cells (pcs F ch) ((launch0 (F := F)).cellOf_inj fun _ => adm F ch))
    (Pipeline.launchToks (pcs F ch) ((launch0 (F := F)).cellOf_inj fun _ => adm F ch))

theorem share_eq (c : Dev nD) (w : Fin (cfgA F ch).W) : (dats ch m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm F ch).1 ∗ Pipeline.scopedRest spec0 c) ⊢ (dats ch m 0 c).Φ 0 := by
  rw [prefHeld_eq, scopedRest0_eq, show (dats ch m 0 c).Φ 0 = Phi ch m c 0 from rfl]
  unfold Phi
  iintro ⟨-, ⟨HT0, HT1⟩, ⟨%a0, HS0⟩, ⟨%a1, HS1⟩⟩
  isplitl [HS0 HS1]
  · iexists a0, a1; isplitr; swap
    · isplitl [HS0]; · iexact HS0
      iexact HS1
    · ipureintro; intro s hs; exact absurd hs (by simp)
  isplitl [HT0]
  · iexact HT0
  iexact HT1

/-- at the last point it gives the scratch buffers back (`hout`), the tables let go. -/
theorem phiN_exit (c : Dev nD) : (dats ch m 0 c).Φ (Fin.last (cfgA F ch).N) ⊢ iprop(BI.emp ∗ Pipeline.scopedRest spec0 c) := by
  rw [scopedRest0_eq, show (dats ch m 0 c).Φ (Fin.last (cfgA F ch).N) = Phi ch m c (Fin.last _) from rfl]
  unfold Phi
  iintro ⟨⟨%a0, %a1, -, HS0, HS1⟩, -, -⟩
  isplitr; · iempintro
  isplitl [HS0]
  · iexists a0; iexact HS0
  iexists a1; iexact HS1

/-- At the end: every array at what the pipeline computes, every table and the biases as they were. -/
def QC : PUnit × MemSt nD τ sig (Elt F) → Prop := fun r =>
  ∀ c : Dev nD, (∀ w : Fin (cfgA F ch).W, r.2.mem (((cfgA F ch).win w).arr.view.loc (c : Thread nD τ)) = (dats ch m 0 c).arrAt w (cfgA F ch).N)
    ∧ (∀ j, r.2.mem ((c : Thread nD τ).loc (pre0.ref j)) = (adm F ch).1 j)
    ∧ ∀ b ∈ Pipeline.restRefsP sig pre0 spec0, r.2.mem ((c : Thread nD τ).loc b) = V m c b

theorem V_pre (hp : Pinned ch m) (c : Dev nD) (j : Fin 2) : V m c (pre0.ref j) = (adm F ch).1 j := by
  fin_cases j
  · exact (V_main_arg0 m c).trans (hp.1 c)
  · exact (V_main_arg1 m c).trans (hp.2 c)

set_option backward.isDefEq.respectTransparency.types false in
set_option maxHeartbeats 4000000 in
/-- From a launch whose tables are the given ones, every fair execution ends, with each array at what the pipeline computes and every counter zero. -/
theorem run_main_quiescent (hp : Pinned ch m) : θ_run (defs (F := F)) (onTc (τ := τ) (main (F := F))) (s₀ m ρ) (fun r => QC ch m r ∧ r.2.sem = fun _ => 0) :=
  Pipeline.θ_run_region_noSem_pf_quiescent pcfgs (fun _ => adm F ch) (dats ch m) () ((launch0 (F := F)).cellOf_inj fun _ => adm F ch) (0 : Fin 1)
    (launch0 (F := F)).win.to₀ (launch0 (F := F)).pre (EP F) defs₀ Variants.none m ρ main
    (hbody := fun c => (body_obligation ch m c).loose) (hne := (launch0 (F := F)).block_pos)
    (harr := (launch0 (F := F)).arr_whole) (hstage := (launch0 (F := F)).stage_whole) (howed := fun _ _ => rfl)
    (u₀ := u₀ (F := F) ch) (hu₀ := .rfl)
    (V := V m)
    (hmain := Pipeline.hmainP_prefix pcfgs 0 defs₀ Variants.none m main hostOps0 hostOps0_sub hostOps0_fresh main_chain)
    (hsplit := fun c => Pipeline.arrays_split (pcs F ch) (dats ch m) 0 (launch0 (F := F)).win.arr_inj c (launch0 (F := F)).arr_whole
      (share_eq ch m c) _ _ fun _ => rfl)
    (hpf := V_pre ch m hp)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi0_intro ch m)
    (hout := phiN_exit ch m)
    (QY := fun c s => ∀ b ∈ Pipeline.restRefsP sig pre0 spec0, s.mem ((c : Thread nD τ).loc b) = V m c b)
    (hY := fun c s' => by
      iintro ⟨-, HU, HSI⟩
      unfold Pipeline.unscopedRestP
      imodintro
      iapply (pointsTo_read_all (Pipeline.restRefsP sig pre0 spec0) (fun b => (c : Thread nD τ).loc b) (V m c) s')
      isplitl [HU] <;> iassumption)
    (hQ := fun _ h hz => ⟨fun c => ⟨(h c).1, (h c).2.1, (h c).2.2⟩, hz⟩)

/-- `run_main_quiescent` without the counters. -/
theorem run_main (hp : Pinned ch m) : θ_run (defs (F := F)) (onTc (τ := τ) (main (F := F))) (s₀ m ρ) (QC ch m) :=
  (θ_run defs _ _).mono (fun _ h => h.1) (run_main_quiescent ch m ρ hp)

/-- `frame` without the counters: the argument arrays end unchanged. -/
theorem unchanged (hp : Pinned ch m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2.1 0).trans (hp.1 c).symm, ((h c).2.1 1).trans (hp.2 c).symm,
    (((h c).1 (0 : Fin 6)).trans ((dats ch m 0 c).arrAt_in (0 : Fin 6) rfl _)).trans (V_main_arg2 m c),
    (((h c).1 (1 : Fin 6)).trans ((dats ch m 0 c).arrAt_in (1 : Fin 6) rfl _)).trans (V_main_arg3 m c),
    ((h c).2.2 main_arg4 (by decide)).trans (V_main_arg4 m c),
    (((h c).1 (3 : Fin 6)).trans ((dats ch m 0 c).arrAt_in (3 : Fin 6) rfl _)).trans (V_main_arg5 m c),
    ((h c).2.2 main_arg6 (by decide)).trans (V_main_arg6 m c)⟩) (run_main ch m ρ hp)

/-- The frame at given tables: every fair execution ends, the arguments are unchanged and every counter is zero. -/
theorem frame (hp : Pinned ch m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.ExpertsIdeal.Run

end
-- ==== Proof.ExpertsText.lean ====
/-
  The two experts programs have one text: the idealized program's definitions, over any float values, are the
  program's own.
-/
module

public import proofs.«01_k».proof.Defs
public import proofs.«01_k».proof.Proof.Gen.Experts
public import proofs.«01_k».proof.Proof.Gen.ExpertsIdeal

@[expose] public section

noncomputable section

namespace Cert.Experts.Text

open Idealize.ShloMosaic Idealize.SL.Sem

attribute [local instance] Cert.Experts.Gen.facts Cert.ExpertsIdeal.Gen.facts

variable (F : FTy → Type) [FloatOps F]

theorem body : @Cert.Experts.cc0_experts F _ _ = @Cert.ExpertsIdeal.cc0_experts F _ _ := rfl

theorem bodies : Cert.Experts.defs₀ (F := F) = Cert.ExpertsIdeal.defs₀ (F := F) := by
  unfold Cert.Experts.defs₀ Cert.ExpertsIdeal.defs₀
  rw [body F]
  congr 1
  funext k l
  match k, l with
  | 0, (t, s) => rfl

theorem pipeline : Cert.Experts.pcfg0 (F := F) = Cert.ExpertsIdeal.pcfg0 (F := F) := rfl

theorem defs : Cert.Experts.defs (F := F) = Cert.ExpertsIdeal.defs (F := F) :=
  congrArg (Pipeline.defs (Cert.ExpertsIdeal.pcfgs (F := F))) (bodies F)

theorem main : Cert.Experts.main (F := F) = Cert.ExpertsIdeal.main (F := F) := rfl

end Cert.Experts.Text

end
-- ==== Proof.ExpertsRanges.lean ====
/-
  What the experts call's precondition says: every block's expert is one of the thirty-two, and between one and all
  656 of the blocks hold rows.
-/
module

public import proofs.«01_k».proof.Proof.Gen.Pre_ranges
public import proofs.«01_k».proof.Proof.Finite

@[expose] public section

noncomputable section

namespace Cert.Ranges

open Idealize.ShloMosaic Cert.Pre_ranges

/-- A 32-bit word between two bounds, signed, is between them as a number. -/
theorem lt_of_bits (x : BitVec 32) (h : IntOp.andi (IntOp.cmpi .sge x 0#32) (IntOp.cmpi .slt x 32#32) = 1#1) : x.toNat < 32 := by
  obtain ⟨h1, h2⟩ := IntOp.andi_eq_one.1 h
  have h1 := IntOp.cmpi_sge.1 h1
  have h2 := IntOp.cmpi_slt.1 h2
  rw [show (0#32).toInt = 0 from rfl] at h1
  rw [show (32#32).toInt = 32 from rfl] at h2
  have hc := BitVec.toInt_eq_toNat_cond x
  have hl := x.isLt
  split at hc <;> omega

theorem le_of_bits (x : BitVec 32) (h : IntOp.andi (IntOp.cmpi .sge x 1#32) (IntOp.cmpi .sle x 656#32) = 1#1) :
    1 ≤ x.toNat ∧ x.toNat ≤ 656 := by
  obtain ⟨h1, h2⟩ := IntOp.andi_eq_one.1 h
  have h1 := IntOp.cmpi_sge.1 h1
  have h2 := IntOp.cmpi_sle.1 h2
  rw [show (1#32).toInt = 1 from rfl] at h1
  rw [show (656#32).toInt = 656 from rfl] at h2
  have hc := BitVec.toInt_eq_toNat_cond x
  have hl := x.isLt
  split at hc <;> omega

/-- Where the precondition holds, the tables are in their ranges. -/
theorem ranges {F : FTy → Type} [FloatOps F] {a0 : IVec S656 32} {a1 : IVec S1 32} {a2 : FVec F S167936x1024 .bf16} {a3 : FVec F S32x1024x2048 .f32}
    {a4 : FVec F S32x2048 .f32} {a5 : FVec F S32x1024x1024 .f32} {a6 : FVec F S32x1024 .f32}
    (h : Pre_ranges.fn (F := F) a0 a1 a2 a3 a4 a5 a6 = fun _ => 1#1) :
    (∀ x, (a0 x).toNat < 32) ∧ ∀ x, 1 ≤ (a1 x).toNat ∧ (a1 x).toNat ≤ 656 := by
  have h0 := congrFun h (Shape.Idx.first Gen.h_S_)
  have hx : ∀ a b : BitVec 1, IntOp.andi a b = 1#1 → a = 1#1 ∧ b = 1#1 := by decide
  obtain ⟨h1, h2⟩ := hx _ _ h0
  exact ⟨fun x => lt_of_bits _ (Finite.ones_of_reduce _ _ _ _ rfl _ h1 x), fun x => le_of_bits _ (Finite.ones_of_reduce _ _ _ _ rfl _ h2 x)⟩

end Cert.Ranges

end
-- ==== Proof.ExpertsReference.lean ====
/-
  What the plain experts compute, element by element: each block of 256 rows through its own expert.
-/
module

public import proofs.«01_k».proof.Proof.Gen.ExpertsReferenceIdeal.Run
public import Idealize.ShloMosaic.Lib.Pipeline.ValueKit

@[expose] public section

set_option maxRecDepth 16384

noncomputable section

namespace Cert.ExpertsReferenceIdeal.Plain

open Cert.ExpertsReferenceIdeal Cert.ExpertsReferenceIdeal.Gen
open Idealize.ShloMosaic Idealize.ShloMosaic.TcCoe Idealize.SL.Sem

/-! ## Gathers of whole matrices and of lines -/

section Gather

variable {α : Type} {E P Q N w : Nat}

/-- The dimension numbers of one matrix per index, out of a stack of matrices. -/
abbrev stackDims (wf : GatherDims.WF ⟨3, ![E, P, Q]⟩ ⟨2, ![N, 1]⟩ ⟨3, ![N, P, Q]⟩ [1, 2] [0] [] [0] [] 1 ![1, P, Q]) :
    GatherDims ⟨3, ![E, P, Q]⟩ ⟨2, ![N, 1]⟩ ⟨3, ![N, P, Q]⟩ where
  offsetDims := [1, 2]
  collapsedSliceDims := [0]
  operandBatchingDims := []
  startIndicesBatchingDims := []
  startIndexMap := [0]
  indexVectorDim := 1
  sliceSizes := ![1, P, Q]
  wf := wf

/-- An element of the gather: the index's matrix, at the same place. -/
theorem stack_at (wf : GatherDims.WF ⟨3, ![E, P, Q]⟩ ⟨2, ![N, 1]⟩ ⟨3, ![N, P, Q]⟩ [1, 2] [0] [] [0] [] 1 ![1, P, Q])
    (x : (⟨3, ![E, P, Q]⟩ : Shape).Idx → α) (idx : IVec ⟨2, ![N, 1]⟩ w) (n : Fin N) (p : Fin P) (q : Fin Q) (e : Fin E)
    (he : (idx (ix2 n 0)).toInt.toNat = e.val) : Host.gather (stackDims wf) x idx (ix3 n p q) = x (ix3 e p q) := by
  unfold Host.gather
  congr 1
  funext a
  refine Fin.ext ?_
  show (stackDims wf).start (ix3 n p q) idx a + (stackDims wf).batchCoord (ix3 n p q) a + (stackDims wf).offCoord (ix3 n p q) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (stackDims wf).startIndexMap from List.mem_singleton.mpr rfl)]
    have hsi : (stackDims wf).siIdx (ix3 n p q) ⟨List.idxOf (⟨0, by decide⟩ : Fin 3) (stackDims wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, he]
    exact min_eq_left (by show e.val ≤ E - 1; have := e.isLt; omega)
  | ⟨1, _⟩ =>
    unfold GatherDims.start
    rw [dif_neg (by simp), Nat.zero_add]
    rfl
  | ⟨2, _⟩ =>
    unfold GatherDims.start
    rw [dif_neg (by simp), Nat.zero_add]
    rfl

/-- The dimension numbers of one line per index, out of a matrix. -/
abbrev lineDims (wf : GatherDims.WF ⟨2, ![E, Q]⟩ ⟨2, ![N, 1]⟩ ⟨2, ![N, Q]⟩ [1] [0] [] [0] [] 1 ![1, Q]) :
    GatherDims ⟨2, ![E, Q]⟩ ⟨2, ![N, 1]⟩ ⟨2, ![N, Q]⟩ where
  offsetDims := [1]
  collapsedSliceDims := [0]
  operandBatchingDims := []
  startIndicesBatchingDims := []
  startIndexMap := [0]
  indexVectorDim := 1
  sliceSizes := ![1, Q]
  wf := wf

/-- An element of the gather: the index's line, at the same place. -/
theorem lines_at (wf : GatherDims.WF ⟨2, ![E, Q]⟩ ⟨2, ![N, 1]⟩ ⟨2, ![N, Q]⟩ [1] [0] [] [0] [] 1 ![1, Q])
    (x : (⟨2, ![E, Q]⟩ : Shape).Idx → α) (idx : IVec ⟨2, ![N, 1]⟩ w) (n : Fin N) (q : Fin Q) (e : Fin E)
    (he : (idx (ix2 n 0)).toInt.toNat = e.val) : Host.gather (lineDims wf) x idx (ix2 n q) = x (ix2 e q) := by
  unfold Host.gather
  congr 1
  funext a
  refine Fin.ext ?_
  show (lineDims wf).start (ix2 n q) idx a + (lineDims wf).batchCoord (ix2 n q) a + (lineDims wf).offCoord (ix2 n q) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (lineDims wf).startIndexMap from List.mem_singleton.mpr rfl)]
    have hsi : (lineDims wf).siIdx (ix2 n q) ⟨List.idxOf (⟨0, by decide⟩ : Fin 2) (lineDims wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, he]
    exact min_eq_left (by show e.val ≤ E - 1; have := e.isLt; omega)
  | ⟨1, _⟩ =>
    unfold GatherDims.start
    rw [dif_neg (by simp), Nat.zero_add]
    rfl

end Gather

/-! ## The experts, as one function -/

/-- A block's expert. -/
def expert (e : IVec S656 32) (b : Fin 656) : Fin 32 := ⟨(e (ix1 b)).toNat % 32, Nat.mod_lt _ (by decide)⟩

/-- Row `r` through the first weights and bias of expert `e`. -/
def hidden (X : FVec Ideal S167936x1024 .bf16) (W : FVec Ideal S32x1024x2048 .f32) (B : FVec Ideal S32x2048 .f32) (e : Fin 32)
    (r : Fin 167936) (f : Fin 2048) : EReal :=
  (∑ d : Fin 1024, X (ix2 r d) * W (ix3 e d f)) + B (ix2 e f)

/-- The gated activation: the first half bounded above and gated, the second bounded on both sides, plus one. -/
def gated (g l : EReal) : EReal :=
  (min g (Ideal.ofBits .f32 0x40E00000#32)
      * Ideal.logistic (Ideal.ofBits .f32 0x3FD9DB23#32 * min g (Ideal.ofBits .f32 0x40E00000#32)))
    * (min (Ideal.ofBits .f32 0x40E00000#32) (max (Ideal.ofBits .f32 0xC0E00000#32) l) + 1)

/-- Row `r` through expert `e`, at lane `j`. -/
def row (X : FVec Ideal S167936x1024 .bf16) (W : FVec Ideal S32x1024x2048 .f32) (B : FVec Ideal S32x2048 .f32)
    (W' : FVec Ideal S32x1024x1024 .f32) (B' : FVec Ideal S32x1024 .f32) (e : Fin 32) (r : Fin 167936) (j : Fin 1024) : EReal :=
  (∑ f : Fin 1024, gated (hidden X W B e r ⟨f.val, by omega⟩) (hidden X W B e r ⟨1024 + f.val, by omega⟩) * W' (ix3 e f j))
    + B' (ix2 e j)

/-- The experts' result: each block of rows through its expert, zero past the used blocks. -/
def experts (e : IVec S656 32) (n : IVec S1 32) (X : FVec Ideal S167936x1024 .bf16) (W : FVec Ideal S32x1024x2048 .f32)
    (B : FVec Ideal S32x2048 .f32) (W' : FVec Ideal S32x1024x1024 .f32) (B' : FVec Ideal S32x1024 .f32) :
    FVec Ideal S167936x1024 .bf16 := fun y =>
  have hy : (y 0).val < 167936 := (y 0).isLt
  if (y 0).val / 256 < (n (ix1 0)).toNat then row X W B W' B' (expert e ⟨(y 0).val / 256, by omega⟩) (y 0) (y 1) else (0 : EReal)

/-! ## The program's own steps -/

/-- The indices the gathers take. -/
def starts (e : IVec S656 32) : IVec S656x1 32 :=
  broadcastInDim S656x1 ![0] bcast_S656_S656x1_0 (select (cmpi .slt e (broadcastInDim S656 ![] bcast_S_S656 (constantI S_ 32 0#32)))
    (addi e (broadcastInDim S656 ![] bcast_S_S656 (constantI S_ 32 32#32))) e)

/-- The first product with its bias. -/
def firsts (e : IVec S656 32) (X : FVec Ideal S167936x1024 .bf16) (W : FVec Ideal S32x1024x2048 .f32) (B : FVec Ideal S32x2048 .f32) :
    FVec Ideal S656x256x2048 .f32 :=
  addf (Host.dotGeneral dot_S656x256x1024_S656x1024x2048_S656x256x2048_2_1_1_2_0_0 none
      (shapeCast _ (extf .f32 X bitsLt_bf16_f32) shapeCasts_S167936x1024_S656x256x1024)
      (Host.gather gather_S32x1024x2048_S656x1_S656x1024x2048_12_0_n_n_0_1_110242048 W (starts e)))
    (broadcastInDim S656x256x2048 ![0, 1, 2] bcast_S656x1x2048_S656x256x2048_0_1_2
      (broadcastInDim S656x1x2048 ![0, 2] bcast_S656x2048_S656x1x2048_0_2
        (Host.gather gather_S32x2048_S656x1_S656x2048_1_0_n_n_0_1_12048 B (starts e))))

/-- The first half, bounded. -/
def glu (h : FVec Ideal S656x256x2048 .f32) : FVec Ideal S656x256x1024 .f32 :=
  minimumf (extractStridedSlice S656x256x1024 ![0, 0, 0] h slices_S656x256x2048_S656x256x1024_0_0_0)
    (broadcastInDim S656x256x1024 ![] bcast_S_S656x256x1024 (constant S_ .f32 0x40E00000#32))

/-- The activation. -/
def act (h : FVec Ideal S656x256x2048 .f32) : FVec Ideal S656x256x1024 .f32 :=
  mulf (mulf (glu h) (Host.divf (broadcastInDim S656x256x1024 ![] bcast_S_S656x256x1024 (constant S_ .f32 0x3F800000#32))
      (addf (broadcastInDim S656x256x1024 ![] bcast_S_S656x256x1024 (constant S_ .f32 0x3F800000#32))
        (Host.exp (Host.negf (mulf (broadcastInDim S656x256x1024 ![] bcast_S_S656x256x1024 (constant S_ .f32 0x3FD9DB23#32)) (glu h)))))))
    (addf (minimumf (broadcastInDim S656x256x1024 ![] bcast_S_S656x256x1024 (id (constant S_ .f32 0x40E00000#32)))
        (maximumf (broadcastInDim S656x256x1024 ![] bcast_S_S656x256x1024 (id (constant S_ .f32 0xC0E00000#32)))
          (extractStridedSlice S656x256x1024 ![0, 0, 1024] h slices_S656x256x2048_S656x256x1024_0_0_1024)))
      (broadcastInDim S656x256x1024 ![] bcast_S_S656x256x1024 (constant S_ .f32 0x3F800000#32)))

/-- The second product with its bias. -/
def seconds (e : IVec S656 32) (a : FVec Ideal S656x256x1024 .f32) (W' : FVec Ideal S32x1024x1024 .f32) (B' : FVec Ideal S32x1024 .f32) :
    FVec Ideal S656x256x1024 .f32 :=
  addf (Host.dotGeneral dot_S656x256x1024_S656x1024x1024_S656x256x1024_2_1_1_2_0_0 none a
      (Host.gather gather_S32x1024x1024_S656x1_S656x1024x1024_12_0_n_n_0_1_110241024 W' (starts e)))
    (broadcastInDim S656x256x1024 ![0, 1, 2] bcast_S656x1x1024_S656x256x1024_0_1_2
      (broadcastInDim S656x1x1024 ![0, 2] bcast_S656x1024_S656x1x1024_0_2
        (Host.gather gather_S32x1024_S656x1_S656x1024_1_0_n_n_0_1_11024 B' (starts e))))

/-- Whether a row's block is used. -/
def live (n : IVec S1 32) : IVec S656x256x1024 1 :=
  broadcastInDim S656x256x1024 ![0, 1, 2] bcast_S656x1x1_S656x256x1024_0_1_2
    (cmpi .slt (broadcastInDim S656x1x1 ![0] bcast_S656_S656x1x1_0 (iotaInDim S656 32 0))
      (broadcastInDim S656x1x1 ![] bcast_S_S656x1x1 (shapeCast _ n shapeCasts_S1_S_)))

/-- The used blocks' rows, one after another. -/
def kept (n : IVec S1 32) (y : FVec Ideal S656x256x1024 .f32) : FVec Ideal S167936x1024 .bf16 :=
  truncf .bf16 (shapeCast _ (select (live n) y (broadcastInDim S656x256x1024 ![] bcast_S_S656x256x1024 (id (constant S_ .f32 0x00000000#32))))
    shapeCasts_S656x256x1024_S167936x1024) bitsLt_bf16_f32

variable (e : IVec S656 32) (he : ∀ x, (e x).toNat < 32)

include he in
/-- An index is a block's expert. -/
theorem starts_at (b : Fin 656) : (starts e (ix2 b 0)).toInt.toNat = (expert e b).val := by
  have hb := he (ix1 b)
  have hi : (e (ix1 b)).toInt = (e (ix1 b)).toNat := BitVec.toInt_eq_toNat_of_lt (by omega)
  have hs : starts e (ix2 b 0) = if IntOp.cmpi .slt (e (ix1 b)) 0#32 = 1#1 then IntOp.addi (e (ix1 b)) 32#32 else e (ix1 b) := by
    pointwise [starts]
    rfl
  rw [hs, if_neg (fun h => by
    have := IntOp.cmpi_slt.1 h
    rw [hi, show (0#32).toInt = 0 from rfl] at this; omega), hi, Int.toNat_natCast]
  exact (Nat.mod_eq_of_lt hb).symm

include he in
/-- An element of the first product. -/
theorem firsts_at (X : FVec Ideal S167936x1024 .bf16) (W : FVec Ideal S32x1024x2048 .f32) (B : FVec Ideal S32x2048 .f32)
    (b : Fin 656) (r : Fin 256) (f : Fin 2048) :
    firsts e X W B (ix3 b r f) = hidden X W B (expert e b) ⟨b.val * 256 + r.val, by omega⟩ f := by
  have hW : ∀ d : Fin 1024, Host.gather gather_S32x1024x2048_S656x1_S656x1024x2048_12_0_n_n_0_1_110242048 W (starts e) (ix3 b d f)
      = W (ix3 (expert e b) d f) := fun d => stack_at _ W (starts e) b d f _ (starts_at e he b)
  have hB : Host.gather gather_S32x2048_S656x1_S656x2048_1_0_n_n_0_1_12048 B (starts e) (ix2 b f)
      = B (ix2 (expert e b) f) := lines_at _ B (starts e) b f _ (starts_at e he b)
  unfold hidden
  rw [← hB]
  simp only [← hW]
  unfold firsts
  generalize Host.gather gather_S32x1024x2048_S656x1_S656x1024x2048_12_0_n_n_0_1_110242048 W (starts e) = G
  generalize Host.gather gather_S32x2048_S656x1_S656x2048_1_0_n_n_0_1_12048 B (starts e) = G'
  pointwise

/-- An element of the activation. -/
theorem act_at (h : FVec Ideal S656x256x2048 .f32) (b : Fin 656) (r : Fin 256) (f : Fin 1024) :
    act h (ix3 b r f) = gated (h (ix3 b r ⟨f.val, by omega⟩)) (h (ix3 b r ⟨1024 + f.val, by omega⟩)) := by
  unfold gated Ideal.logistic
  pointwise [act, glu, id_eq]

include he in
/-- An element of the second product. -/
theorem seconds_at (a : FVec Ideal S656x256x1024 .f32) (W' : FVec Ideal S32x1024x1024 .f32) (B' : FVec Ideal S32x1024 .f32)
    (b : Fin 656) (r : Fin 256) (j : Fin 1024) :
    seconds e a W' B' (ix3 b r j) = (∑ f : Fin 1024, a (ix3 b r f) * W' (ix3 (expert e b) f j)) + B' (ix2 (expert e b) j) := by
  have hW : ∀ f : Fin 1024, Host.gather gather_S32x1024x1024_S656x1_S656x1024x1024_12_0_n_n_0_1_110241024 W' (starts e) (ix3 b f j)
      = W' (ix3 (expert e b) f j) := fun f => stack_at _ W' (starts e) b f j _ (starts_at e he b)
  have hB : Host.gather gather_S32x1024_S656x1_S656x1024_1_0_n_n_0_1_11024 B' (starts e) (ix2 b j)
      = B' (ix2 (expert e b) j) := lines_at _ B' (starts e) b j _ (starts_at e he b)
  rw [← hB]
  simp only [← hW]
  unfold seconds
  generalize Host.gather gather_S32x1024x1024_S656x1_S656x1024x1024_12_0_n_n_0_1_110241024 W' (starts e) = G
  generalize Host.gather gather_S32x1024_S656x1_S656x1024_1_0_n_n_0_1_11024 B' (starts e) = G'
  pointwise

/-- A row's block is used where it comes before the number of used blocks. -/
theorem live_at (n : IVec S1 32) (hn : (n (ix1 0)).toNat ≤ 656) (b : Fin 656) (r : Fin 256) (j : Fin 1024) :
    live n (ix3 b r j) = 1#1 ↔ b.val < (n (ix1 0)).toNat := by
  have hl : live n (ix3 b r j) = IntOp.cmpi .slt (BitVec.ofNat 32 b.val) (n (ix1 0)) := by
    pointwise [live]
  have hb : (BitVec.ofNat 32 b.val).toInt = b.val := by
    rw [BitVec.toInt_eq_toNat_of_lt (by rw [BitVec.toNat_ofNat]; omega), BitVec.toNat_ofNat]; omega
  have hi : (n (ix1 0)).toInt = (n (ix1 0)).toNat := BitVec.toInt_eq_toNat_of_lt (by omega)
  rw [hl, IntOp.cmpi_slt, hb, hi]
  omega

/-- An element of the result. -/
theorem kept_at (n : IVec S1 32) (hn : (n (ix1 0)).toNat ≤ 656) (y : FVec Ideal S656x256x1024 .f32) (r : Fin 167936) (j : Fin 1024) :
    kept n y (ix2 r j) = if r.val / 256 < (n (ix1 0)).toNat then y (ix3 ⟨r.val / 256, by omega⟩ ⟨r.val % 256, by omega⟩ j) else (0 : EReal) := by
  have hk : kept n y (ix2 r j) = if live n (ix3 ⟨r.val / 256, by omega⟩ ⟨r.val % 256, by omega⟩ j) = 1#1
      then y (ix3 ⟨r.val / 256, by omega⟩ ⟨r.val % 256, by omega⟩ j) else (0 : EReal) := by
    unfold kept
    generalize live n = L
    pointwise [id_eq]
    rfl
  rw [hk]
  simp only [live_at n hn]

include he in
/-- The program's composed operations are the experts. -/
theorem composed (n : IVec S1 32) (hn : (n (ix1 0)).toNat ≤ 656) (X : FVec Ideal S167936x1024 .bf16) (W : FVec Ideal S32x1024x2048 .f32)
    (B : FVec Ideal S32x2048 .f32) (W' : FVec Ideal S32x1024x1024 .f32) (B' : FVec Ideal S32x1024 .f32) :
    kept n (seconds e (act (firsts e X W B)) W' B') = experts e n X W B W' B' := by
  funext y
  idx_vars y
  rw [kept_at n hn]
  show _ = if y0.val / 256 < (n (ix1 0)).toNat then row X W B W' B' (expert e ⟨y0.val / 256, by omega⟩) y0 y1 else (0 : EReal)
  refine if_congr Iff.rfl ?_ rfl
  have hr : (⟨(⟨y0.val / 256, by omega⟩ : Fin 656).val * 256 + (⟨y0.val % 256, by omega⟩ : Fin 256).val, by
      show y0.val / 256 * 256 + y0.val % 256 < 167936; omega⟩ : Fin 167936) = y0 :=
    Fin.ext (by show y0.val / 256 * 256 + y0.val % 256 = y0.val; omega)
  rw [seconds_at e he]
  simp only [act_at, firsts_at e he, hr]
  rfl

/-- The plain experts run, leave their arguments, and their result is the experts'. -/
theorem run (m : (ℓ : Loc nD τ sig) → Buf (Elt Ideal) ℓ) (ρ : Dev nD → PrngReg)
    (he : ∀ (c : Dev nD) (x : S656.Idx), ((show IVec S656 32 from m ((c.tc : Thread nD τ).loc main_arg0)) x).toNat < 32)
    (hn : ∀ (c : Dev nD) (x : S1.Idx), ((show IVec S1 32 from m ((c.tc : Thread nD τ).loc main_arg1)) x).toNat ≤ 656) :
    θ_run defs (onTc (τ := τ) (main (F := Ideal))) ⟨m, fun _ => 0, ρ⟩ fun r => ∀ c : Dev nD,
      r.2.mem ((c.tc : Thread nD τ).loc main_v62)
          = experts (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run m ρ)
  have he := he c
  have hn := hn c (ix1 0)
  unfold Value.res_main_v62
  generalize m ((c.tc : Thread nD τ).loc main_arg0) = e at he ⊢
  generalize m ((c.tc : Thread nD τ).loc main_arg1) = n at hn ⊢
  generalize m ((c.tc : Thread nD τ).loc main_arg2) = X
  generalize m ((c.tc : Thread nD τ).loc main_arg3) = W
  generalize m ((c.tc : Thread nD τ).loc main_arg4) = B
  generalize m ((c.tc : Thread nD τ).loc main_arg5) = W'
  generalize m ((c.tc : Thread nD τ).loc main_arg6) = B'
  exact composed e he n hn X W B W' B'

end Cert.ExpertsReferenceIdeal.Plain

end
-- ==== Proof.ExpertsValue.lean ====
/-
  The experts call's result array: each block of rows through its expert, zero past the used blocks.
-/
module

public import proofs.«01_k».proof.Proof.ExpertsRun
public import proofs.«01_k».proof.Proof.ExpertsReference
public import Idealize.ShloMosaic.Lib.Pipeline.ValueKit
public import Idealize.ShloMosaic.Lib.Pipeline.Covers
public import Idealize.ShloMosaic.Lib.Pointwise

@[expose] public section

set_option maxRecDepth 16384

noncomputable section

namespace Cert.ExpertsIdeal.Array

open Cert.ExpertsIdeal Cert.ExpertsIdeal.Gen Cert.ExpertsIdeal.Tables Cert.ExpertsIdeal.Run
open Cert.ExpertsReferenceIdeal.Plain (hidden gated row experts)
open Idealize.ShloMosaic Idealize.ShloMosaic.TcCoe
open Idealize.ShloMosaic.Pipeline (Dat)

/-! ## The body's arithmetic at an element -/

/-- One row of a block through the first weights and bias at hand. -/
def hiddenB (x0 : FVec Ideal S256x1024 .bf16) (x1 : FVec Ideal S1x1024x2048 .f32) (x2 : FVec Ideal S1x1x2048 .f32) (r : Fin 256)
    (f : Fin 2048) : EReal := (∑ d : Fin 1024, x0 (ix2 r d) * x1 (ix3 0 d f)) + x2 (ix3 0 0 f)

/-- What a used block's point leaves at an element. -/
theorem pay3_at (x0 : FVec Ideal S256x1024 .bf16) (x1 : FVec Ideal S1x1024x2048 .f32) (x2 : FVec Ideal S1x1x2048 .f32)
    (x3 : FVec Ideal S1x1024x1024 .f32) (x4 : FVec Ideal S1x1x1024 .f32) (r : Fin 256) (j : Fin 1024) :
    k0_pay3 (F := Ideal) x0 (k0_pay1 (F := Ideal) x1) x2 (k0_pay2 (F := Ideal) x3) x4 (ix2 r j)
      = (∑ f : Fin 1024, gated (hiddenB x0 x1 x2 r ⟨f.val, by omega⟩) (hiddenB x0 x1 x2 r ⟨1024 + f.val, by omega⟩) * x3 (ix3 0 f j))
        + x4 (ix3 0 0 j) := by
  unfold gated hiddenB
  pointwise [k0_pay3, k0_pay1, k0_pay2]

theorem pay4_at (y : S256x1024.Idx) : k0_pay4 (F := Ideal) y = (0 : EReal) := by
  idx_vars y
  pointwise [k0_pay4]

/-! ## The blocks -/

variable (ch : Tab) (m : (ℓ : Loc nD τ sig) → Buf (Elt Ideal) ℓ)

theorem idx0 (t : Fin (cfgA Ideal ch).N) : ((cfgA Ideal ch).win (0 : Fin 6)).index t = ![min t.val (used ch - 1), 0] := by
  show cc0_transform_0 (F := Ideal) _ _ (words Ideal ch) (crd Ideal ch t) = _
  rw [map0, crd_val]

theorem idx1 (t : Fin (cfgA Ideal ch).N) : ((cfgA Ideal ch).win (1 : Fin 6)).index t = ![expert ch t.val, 0, 0] := by
  show cc0_transform_1 (F := Ideal) _ _ (words Ideal ch) (crd Ideal ch t) = _
  rw [map1, crd_val]

theorem idx2 (t : Fin (cfgA Ideal ch).N) : ((cfgA Ideal ch).win (2 : Fin 6)).index t = ![expert ch t.val, 0, 0] := by
  show cc0_transform_2 (F := Ideal) _ _ (words Ideal ch) (crd Ideal ch t) = _
  rw [map2, crd_val]

theorem idx3 (t : Fin (cfgA Ideal ch).N) : ((cfgA Ideal ch).win (3 : Fin 6)).index t = ![expert ch t.val, 0, 0] := by
  show cc0_transform_3 (F := Ideal) _ _ (words Ideal ch) (crd Ideal ch t) = _
  rw [map3, crd_val]

theorem idx4 (t : Fin (cfgA Ideal ch).N) : ((cfgA Ideal ch).win (4 : Fin 6)).index t = ![expert ch t.val, 0, 0] := by
  show cc0_transform_4 (F := Ideal) _ _ (words Ideal ch) (crd Ideal ch t) = _
  rw [map4, crd_val]

theorem idx5 (t : Fin (cfgA Ideal ch).N) : ((cfgA Ideal ch).win (5 : Fin 6)).index t = ![t.val, 0] := by
  show cc0_transform_5 (crd Ideal ch t) = _
  rw [map5, crd_val]

/-- The first biases with their unit axis, -/
theorem unit1_at (c : Dev nD) (e : Fin 32) (f : Fin 2048) :
    (show FVec Ideal S32x1x2048 .f32 from V m c main_v0) (ix3 e 0 f)
      = (show FVec Ideal S32x2048 .f32 from m ((c : Thread nD τ).loc main_arg4)) (ix2 e f) := by
  entry_read
  pointwise

/-- and the second. -/
theorem unit2_at (c : Dev nD) (e : Fin 32) (j : Fin 1024) :
    (show FVec Ideal S32x1x1024 .f32 from V m c main_v1) (ix3 e 0 j)
      = (show FVec Ideal S32x1024 .f32 from m ((c : Thread nD τ).loc main_arg6)) (ix2 e j) := by
  entry_read
  pointwise

/-- The rows' block at an index. -/
theorem rows_at (c : Dev nD) (t : Fin (cfgA Ideal ch).N) (h : t.val < used ch) (r : Fin 256) (d : Fin 1024) (r' : Fin 167936)
    (hr : r'.val = t.val * 256 + r.val) :
    (show FVec Ideal S256x1024 .bf16 from iblk ch m c (0 : Fin 6) t) (ix2 r d)
      = (show FVec Ideal S167936x1024 .bf16 from m ((c : Thread nD τ).loc main_arg2)) (ix2 r' d) := by
  rw [← V_main_arg2 m c]
  show V m c main_arg2 ((((cfgA Ideal ch).win (0 : Fin 6)).blk t).view.emb (ix2 r d)) = _
  refine congrArg _ ?_
  have hm : min t.val (used ch - 1) = t.val := by omega
  blk_ext [idx0 ch t, hm]

/-- The first weights' block at an index. -/
theorem weights1_at (c : Dev nD) (t : Fin (cfgA Ideal ch).N) (d : Fin 1024) (f : Fin 2048) (e : Fin 32) (he : e.val = expert ch t.val) :
    (show FVec Ideal S1x1024x2048 .f32 from iblk ch m c (1 : Fin 6) t) (ix3 0 d f)
      = (show FVec Ideal S32x1024x2048 .f32 from m ((c : Thread nD τ).loc main_arg3)) (ix3 e d f) := by
  rw [← V_main_arg3 m c]
  show V m c main_arg3 ((((cfgA Ideal ch).win (1 : Fin 6)).blk t).view.emb (ix3 0 d f)) = _
  refine congrArg _ ?_
  blk_ext [idx1 ch t]

/-- The first bias's block at an index. -/
theorem bias1_at (c : Dev nD) (t : Fin (cfgA Ideal ch).N) (f : Fin 2048) (e : Fin 32) (he : e.val = expert ch t.val) :
    (show FVec Ideal S1x1x2048 .f32 from iblk ch m c (2 : Fin 6) t) (ix3 0 0 f)
      = (show FVec Ideal S32x2048 .f32 from m ((c : Thread nD τ).loc main_arg4)) (ix2 e f) := by
  rw [← unit1_at m c e f]
  show V m c main_v0 ((((cfgA Ideal ch).win (2 : Fin 6)).blk t).view.emb (ix3 0 0 f)) = _
  refine congrArg _ ?_
  blk_ext [idx2 ch t]

/-- The second weights' block at an index. -/
theorem weights2_at (c : Dev nD) (t : Fin (cfgA Ideal ch).N) (f : Fin 1024) (j : Fin 1024) (e : Fin 32) (he : e.val = expert ch t.val) :
    (show FVec Ideal S1x1024x1024 .f32 from iblk ch m c (3 : Fin 6) t) (ix3 0 f j)
      = (show FVec Ideal S32x1024x1024 .f32 from m ((c : Thread nD τ).loc main_arg5)) (ix3 e f j) := by
  rw [← V_main_arg5 m c]
  show V m c main_arg5 ((((cfgA Ideal ch).win (3 : Fin 6)).blk t).view.emb (ix3 0 f j)) = _
  refine congrArg _ ?_
  blk_ext [idx3 ch t]

/-- The second bias's block at an index. -/
theorem bias2_at (c : Dev nD) (t : Fin (cfgA Ideal ch).N) (j : Fin 1024) (e : Fin 32) (he : e.val = expert ch t.val) :
    (show FVec Ideal S1x1x1024 .f32 from iblk ch m c (4 : Fin 6) t) (ix3 0 0 j)
      = (show FVec Ideal S32x1024 .f32 from m ((c : Thread nD τ).loc main_arg6)) (ix2 e j) := by
  rw [← unit2_at m c e j]
  show V m c main_v1 ((((cfgA Ideal ch).win (4 : Fin 6)).blk t).view.emb (ix3 0 0 j)) = _
  refine congrArg _ ?_
  blk_ext [idx4 ch t]

/-! ## The array -/

/-- The call's result over its operands. -/
abbrev result (c : Dev nD) : FVec Ideal S167936x1024 .bf16 :=
  experts (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The output's blocks cover its array. -/
theorem covers : ((cfgA Ideal ch).win (5 : Fin 6)).Covers := by
  have n0 : ((cfgA Ideal ch).win (5 : Fin 6)).nblk (0 : Fin 2) = 656 := by
    show (167936 + 256 - 1) / 256 = 656
    norm_num
  have n1 : ((cfgA Ideal ch).win (5 : Fin 6)).nblk (1 : Fin 2) = 1 := by
    show (1024 + 1024 - 1) / 1024 = 1
    norm_num
  have hs : ∀ a : Fin 2, 0 < ((cfgA Ideal ch).win (5 : Fin 6)).size a := fun a => by
    show 0 < S256x1024.size a
    fin_cases a <;> decide
  refine Pipeline.Window.covers_of_index_surj _ rfl hs fun β => ?_
  have h0 : (β (0 : Fin 2)).val < 656 := lt_of_lt_of_eq (β (0 : Fin 2)).isLt n0
  have h1 : (β (1 : Fin 2)).val < 1 := lt_of_lt_of_eq (β (1 : Fin 2)).isLt n1
  refine ⟨⟨(β (0 : Fin 2)).val, h0⟩, fun a => ?_⟩
  rw [idx5]
  fin_cases a
  · rfl
  · show 0 = (β 1).val
    omega

/-- A used block's element is its expert's row. -/
theorem point (c : Dev nD) (t : Fin (cfgA Ideal ch).N) (h : t.val < used ch) (r : Fin 256) (j : Fin 1024) (r' : Fin 167936)
    (hr : r'.val = t.val * 256 + r.val) (e : Fin 32) (he : e.val = expert ch t.val) :
    k0_pay3 (F := Ideal) (iblk ch m c (0 : Fin 6) t) (k0_pay1 (iblk ch m c (1 : Fin 6) t)) (iblk ch m c (2 : Fin 6) t)
      (k0_pay2 (iblk ch m c (3 : Fin 6) t)) (iblk ch m c (4 : Fin 6) t) (ix2 r j)
      = row (m ((c : Thread nD τ).loc main_arg2)) (m ((c : Thread nD τ).loc main_arg3)) (m ((c : Thread nD τ).loc main_arg4))
        (m ((c : Thread nD τ).loc main_arg5)) (m ((c : Thread nD τ).loc main_arg6)) e r' j := by
  have hh : ∀ f : Fin 2048, hiddenB (iblk ch m c (0 : Fin 6) t) (iblk ch m c (1 : Fin 6) t) (iblk ch m c (2 : Fin 6) t) r f
      = hidden (m ((c : Thread nD τ).loc main_arg2)) (m ((c : Thread nD τ).loc main_arg3)) (m ((c : Thread nD τ).loc main_arg4)) e r' f := fun f =>
    congrArg₂ (· + ·) (Finset.sum_congr rfl fun d _ => congrArg₂ (· * ·) (rows_at ch m c t h r d r' hr) (weights1_at ch m c t d f e he))
      (bias1_at ch m c t f e he)
  refine (pay3_at _ _ _ _ _ r j).trans ?_
  unfold row
  refine congrArg₂ (· + ·) (Finset.sum_congr rfl fun f _ => congrArg₂ (· * ·) ?_ (weights2_at ch m c t f j e he)) (bias2_at ch m c t j e he)
  rw [hh, hh]

variable (hp : Pinned ch m)
include hp

/-- The result array after the run. -/
theorem final (c : Dev nD) : (dats ch m 0 c).arrAt (5 : Fin 6) (cfgA Ideal ch).N = result m c := by
  refine (dats ch m 0 c).arrAt_eq_of_covers (5 : Fin 6) _ (covers ch) fun t hf y => ?_
  have ht := point_lt Ideal ch t
  have hn : ((show IVec S1 32 from m ((c : Thread nD τ).loc main_arg1)) (ix1 0)).toNat = used ch := by
    rw [hp.2 c]; rfl
  have he : (Cert.ExpertsReferenceIdeal.Plain.expert (m ((c : Thread nD τ).loc main_arg0)) ⟨t.val, ht⟩).val = expert ch t.val := by
    show ((show IVec S656 32 from m ((c : Thread nD τ).loc main_arg0)) (ix1 ⟨t.val, ht⟩)).toNat % 32 = _
    rw [hp.1 c]
    unfold expert
    rw [dif_pos ht]
    exact Nat.mod_eq_of_lt (ch.2.1 _)
  blk_simp
  rw [after0_5]
  idx_vars y
  obtain_idx j : S167936x1024 := [t.val * 256 + y0.val, y1.val] with hj
  have hq : (j 0).val / 256 = t.val := by omega
  have hemb : ((((cfgA Ideal ch).win (5 : Fin 6)).blk t).view.emb (ix2 y0 y1)) = j := by
    blk_ext [idx5 ch t]
  refine Eq.trans ?_ (congrArg (result m c) hemb.symm)
  show outv ch m c t (ix2 y0 y1) = if (j 0).val / 256 < _ then row _ _ _ _ _ (Cert.ExpertsReferenceIdeal.Plain.expert _ ⟨(j 0).val / 256, _⟩) (j 0) (j 1) else (0 : EReal)
  unfold outv
  by_cases hu : t.val < used ch
  · rw [if_pos hu, if_pos (by rw [hq]; exact lt_of_lt_of_eq hu hn.symm)]
    rw [show (j 1) = y1 from Fin.ext hj1]
    exact point ch m c t hu y0 y1 (j 0) hj0 _ ((congrArg (fun b => (Cert.ExpertsReferenceIdeal.Plain.expert
      (m ((c : Thread nD τ).loc main_arg0)) b).val) (Fin.ext hq)).trans he)
  · rw [if_neg hu, if_neg (by rw [hq]; exact fun h => hu (lt_of_lt_of_eq h hn))]
    exact pay4_at _

end Cert.ExpertsIdeal.Array

end
-- ==== Proof.MergeRow.lean ====
/-
  One row of the output call: the three attentions' rows, each through its weights and under its gate, added,
  projected, added to the scaled input row, and normalised.
-/
module

public import Idealize.ShloMosaic.Lib.Pipeline.ValueKit

@[expose] public section

noncomputable section

namespace Cert.MergeRow

open Idealize.ShloMosaic

/-- One attention's share of one lane: the gate of the input row `h`, times the attention's row `o` through its weights. -/
def gated (h w : Fin 1024 → EReal) (b : EReal) (o v : Fin 512 → EReal) : EReal :=
  Ideal.logistic ((∑ d : Fin 1024, h d * w d) + b) * ∑ e : Fin 512, o e * v e

/-- The merged row at lane `k`: the gates of the three attentions are side by side in `W` and `b`. -/
def merged (h : Fin 1024 → EReal) (o1 o2 o3 : Fin 512 → EReal) (W : Fin 1024 → Fin 3072 → EReal) (b : Fin 3072 → EReal)
    (v1 v2 v3 : Fin 512 → Fin 1024 → EReal) (k : Fin 1024) : EReal :=
  gated h (fun d => W d ⟨k.val, by omega⟩) (b ⟨k.val, by omega⟩) o1 (fun e => v1 e k)
    + gated h (fun d => W d ⟨1024 + k.val, by omega⟩) (b ⟨1024 + k.val, by omega⟩) o2 (fun e => v2 e k)
    + gated h (fun d => W d ⟨2048 + k.val, by omega⟩) (b ⟨2048 + k.val, by omega⟩) o3 (fun e => v3 e k)

/-- The input row, scaled, with `p` added. -/
def added (h p : Fin 1024 → EReal) (j : Fin 1024) : EReal := Ideal.ofBits .f32 0x3F9837F0#32 * h j + p j

/-- The mean of a row's 1024 lanes. -/
def mean (x : Fin 1024 → EReal) : EReal := Ideal.div (∑ k : Fin 1024, x k) (Ideal.ofBits .f32 0x44800000#32)

/-- The row normalised: centred, over the root of its variance and a small constant, with scale `g` and shift `s`. -/
def normed (x g s : Fin 1024 → EReal) (j : Fin 1024) : EReal :=
  (x j - mean x) * Ideal.rsqrt (mean (fun k => (x k - mean x) * (x k - mean x)) + Ideal.ofBits .f32 0x3727C5AC#32) * g j + s j

/-- The output row at lane `j`. -/
def row (h : Fin 1024 → EReal) (o1 o2 o3 : Fin 512 → EReal) (W : Fin 1024 → Fin 3072 → EReal) (b : Fin 3072 → EReal)
    (v1 v2 v3 : Fin 512 → Fin 1024 → EReal) (w : Fin 1024 → Fin 1024 → EReal) (g s : Fin 1024 → EReal) (j : Fin 1024) : EReal :=
  normed (added h fun n => ∑ k : Fin 1024, merged h o1 o2 o3 W b v1 v2 v3 k * w k n) g s j

end Cert.MergeRow

end
-- ==== Proof.MergeReference.lean ====
/-
  What the plain output step computes, element by element: each of the 32768 rows merged, projected and normalised.
-/
module

public import proofs.«01_k».proof.Proof.MergeRow
public import proofs.«01_k».proof.Proof.Gen.MergeReferenceIdeal.Run
public import Idealize.ShloMosaic.Lib.Pipeline.ValueKit

@[expose] public section

set_option maxRecDepth 16384

noncomputable section

namespace Cert.MergeReferenceIdeal.Plain

open Cert.MergeReferenceIdeal Cert.MergeReferenceIdeal.Gen Cert.MergeRow
open Idealize.ShloMosaic Idealize.ShloMosaic.TcCoe Idealize.SL.Sem

/-! ## The result, as one function -/

/-- The result at row `s` of batch `b`, lane `j`. -/
def entry (H : FVec Ideal S8x4096x1024 .f32) (o1 o2 o3 : FVec Ideal S8x4096x512 .bf16) (W : FVec Ideal S1024x5024 .f32)
    (B : FVec Ideal S3072 .f32) (v1 v2 v3 : FVec Ideal S512x1024 .f32) (w : FVec Ideal S1024x1024 .f32)
    (g s : FVec Ideal S1024 .f32) (b : Fin 8) (r : Fin 4096) (j : Fin 1024) : EReal :=
  row (fun d => H (ix3 b r d)) (fun e => o1 (ix3 b r e)) (fun e => o2 (ix3 b r e)) (fun e => o3 (ix3 b r e))
    (fun d q => W (ix2 d ⟨1952 + q.val, by omega⟩)) (fun q => B (ix1 q)) (fun e k => v1 (ix2 e k)) (fun e k => v2 (ix2 e k))
    (fun e k => v3 (ix2 e k)) (fun k n => w (ix2 k n)) (fun k => g (ix1 k)) (fun k => s (ix1 k)) j

/-- The whole result: the batches' rows one after another. -/
def result (H : FVec Ideal S8x4096x1024 .f32) (o1 o2 o3 : FVec Ideal S8x4096x512 .bf16) (W : FVec Ideal S1024x5024 .f32)
    (B : FVec Ideal S3072 .f32) (v1 v2 v3 : FVec Ideal S512x1024 .f32) (w : FVec Ideal S1024x1024 .f32)
    (g s : FVec Ideal S1024 .f32) : FVec Ideal S32768x1024 .f32 := fun y =>
  have hy : (y 0).val < 32768 := (y 0).isLt
  entry H o1 o2 o3 W B v1 v2 v3 w g s ⟨(y 0).val / 4096, by omega⟩ ⟨(y 0).val % 4096, by omega⟩ (y 1)

/-! ## The program's own steps -/

/-- The three gates, side by side. -/
def gates (H : FVec Ideal S8x4096x1024 .f32) (W : FVec Ideal S1024x5024 .f32) (B : FVec Ideal S3072 .f32) :
    FVec Ideal S8x4096x3x1024 .f32 :=
  shapeCast _ (Host.divf (broadcastInDim S8x4096x3072 ![] bcast_S_S8x4096x3072 (constant S_ .f32 0x3F800000#32))
    (addf (broadcastInDim S8x4096x3072 ![] bcast_S_S8x4096x3072 (constant S_ .f32 0x3F800000#32))
      (Host.exp (Host.negf (addf (Host.dotGeneral dot_S8x4096x1024_S1024x3072_S8x4096x3072_2_0_01_1_n_n none H
          (extractStridedSlice S1024x3072 ![0, 1952] W slices_S1024x5024_S1024x3072_0_1952))
        (broadcastInDim S8x4096x3072 ![0, 1, 2] bcast_S1x1x3072_S8x4096x3072_0_1_2
          (broadcastInDim S1x1x3072 ![2] bcast_S3072_S1x1x3072_2 B)))))))
    shapeCasts_S8x4096x3072_S8x4096x3x1024

/-- An attention's output through its weights. -/
def branch (o : FVec Ideal S8x4096x512 .bf16) (v : FVec Ideal S512x1024 .f32) : FVec Ideal S8x4096x1024 .f32 :=
  Host.dotGeneral dot_S8x4096x512_S512x1024_S8x4096x1024_2_0_01_1_n_n none (extf .f32 o bitsLt_bf16_f32) v

/-- The gated sum. -/
def merge (G : FVec Ideal S8x4096x3x1024 .f32) (p1 p2 p3 : FVec Ideal S8x4096x1024 .f32) : FVec Ideal S8x4096x1024 .f32 :=
  addf (addf
      (mulf (shapeCast _ (extractStridedSlice S8x4096x1x1024 ![0, 0, 0, 0] G slices_S8x4096x3x1024_S8x4096x1x1024_0_0_0_0)
        shapeCasts_S8x4096x1x1024_S8x4096x1024) p1)
      (mulf (shapeCast _ (extractStridedSlice S8x4096x1x1024 ![0, 0, 1, 0] G slices_S8x4096x3x1024_S8x4096x1x1024_0_0_1_0)
        shapeCasts_S8x4096x1x1024_S8x4096x1024) p2))
    (mulf (shapeCast _ (extractStridedSlice S8x4096x1x1024 ![0, 0, 2, 0] G slices_S8x4096x3x1024_S8x4096x1x1024_0_0_2_0)
      shapeCasts_S8x4096x1x1024_S8x4096x1024) p3)

/-- The scaled input with the projected merge added. -/
def sums (H M : FVec Ideal S8x4096x1024 .f32) (w : FVec Ideal S1024x1024 .f32) : FVec Ideal S8x4096x1024 .f32 :=
  addf (mulf (broadcastInDim S8x4096x1024 ![] bcast_S_S8x4096x1024 (constant S_ .f32 0x3F9837F0#32)) H)
    (Host.dotGeneral dot_S8x4096x1024_S1024x1024_S8x4096x1024_2_0_01_1_n_n none M w)

/-- The rows' means. -/
def means (x : FVec Ideal S8x4096x1024 .f32) : FVec Ideal S8x4096x1 .f32 :=
  Host.divf (broadcastInDim S8x4096x1 ![0, 1] bcast_S8x4096_S8x4096x1_0_1
      (Host.reduceAdd x (constant S_ .f32 0x00000000#32) reducesTo_S8x4096x1024_S8x4096_d2 h_S_))
    (broadcastInDim S8x4096x1 ![] bcast_S_S8x4096x1 (constant S_ .f32 0x44800000#32))

/-- The rows less their means. -/
def centred (x : FVec Ideal S8x4096x1024 .f32) : FVec Ideal S8x4096x1024 .f32 :=
  subf x (broadcastInDim S8x4096x1024 ![0, 1, 2] bcast_S8x4096x1_S8x4096x1024_0_1_2 (means x))

/-- The rows normalised. -/
def norm (x : FVec Ideal S8x4096x1024 .f32) (g s : FVec Ideal S1024 .f32) : FVec Ideal S8x4096x1024 .f32 :=
  addf (mulf (mulf (centred x) (broadcastInDim S8x4096x1024 ![0, 1, 2] bcast_S8x4096x1_S8x4096x1024_0_1_2
      (Host.rsqrt (addf (means (mulf (centred x) (centred x)))
        (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 s))

/-! ## Their elements -/

theorem gates_at (H : FVec Ideal S8x4096x1024 .f32) (W : FVec Ideal S1024x5024 .f32) (B : FVec Ideal S3072 .f32)
    (b : Fin 8) (r : Fin 4096) (i : Fin 3) (k : Fin 1024) (q : Fin 3072) (hq : q.val = i.val * 1024 + k.val) :
    gates H W B (ix4 b r i k)
      = Ideal.logistic ((∑ d : Fin 1024, H (ix3 b r d) * W (ix2 d ⟨1952 + q.val, by omega⟩)) + B (ix1 q)) := by
  unfold Ideal.logistic
  have hl : i.val * 1024 + k.val < 3072 := lt_of_eq_of_lt hq.symm q.isLt
  obtain rfl : q = ⟨i.val * 1024 + k.val, hl⟩ := Fin.ext hq
  pointwise [gates]

theorem branch_at (o : FVec Ideal S8x4096x512 .bf16) (v : FVec Ideal S512x1024 .f32) (b : Fin 8) (r : Fin 4096) (k : Fin 1024) :
    branch o v (ix3 b r k) = ∑ e : Fin 512, o (ix3 b r e) * v (ix2 e k) := by
  pointwise [branch]

theorem merge_at (G : FVec Ideal S8x4096x3x1024 .f32) (p1 p2 p3 : FVec Ideal S8x4096x1024 .f32) (b : Fin 8) (r : Fin 4096)
    (k : Fin 1024) : merge G p1 p2 p3 (ix3 b r k)
      = G (ix4 b r 0 k) * p1 (ix3 b r k) + G (ix4 b r 1 k) * p2 (ix3 b r k) + G (ix4 b r 2 k) * p3 (ix3 b r k) := by
  pointwise [merge]

theorem sums_at (H M : FVec Ideal S8x4096x1024 .f32) (w : FVec Ideal S1024x1024 .f32) (b : Fin 8) (r : Fin 4096) (j : Fin 1024) :
    sums H M w (ix3 b r j) = added (fun d => H (ix3 b r d)) (fun n => ∑ k : Fin 1024, M (ix3 b r k) * w (ix2 k n)) j := by
  unfold added
  pointwise [sums]

theorem means_at (x : FVec Ideal S8x4096x1024 .f32) (b : Fin 8) (r : Fin 4096) :
    means x (ix3 b r 0) = mean fun k => x (ix3 b r k) := by
  unfold mean
  pointwise [means]

theorem centred_at (x : FVec Ideal S8x4096x1024 .f32) (b : Fin 8) (r : Fin 4096) (j : Fin 1024) :
    centred x (ix3 b r j) = x (ix3 b r j) - mean fun k => x (ix3 b r k) := by
  rw [← means_at]
  unfold centred
  generalize means x = M
  pointwise

theorem norm_at (x : FVec Ideal S8x4096x1024 .f32) (g s : FVec Ideal S1024 .f32) (b : Fin 8) (r : Fin 4096) (j : Fin 1024) :
    norm x g s (ix3 b r j) = normed (fun k => x (ix3 b r k)) (fun k => g (ix1 k)) (fun k => s (ix1 k)) j := by
  have hv : means (mulf (centred x) (centred x)) (ix3 b r 0)
      = mean fun k => (x (ix3 b r k) - mean fun k => x (ix3 b r k)) * (x (ix3 b r k) - mean fun k => x (ix3 b r k)) := by
    rw [means_at]
    refine congrArg mean (funext fun k => ?_)
    rw [← centred_at]
    generalize centred x = C
    pointwise
  unfold normed
  rw [← hv, ← centred_at]
  unfold norm
  generalize means (mulf (centred x) (centred x)) = V
  generalize centred x = C
  pointwise

/-- The program's composed operations give the result. -/
theorem composed (H : FVec Ideal S8x4096x1024 .f32) (o1 o2 o3 : FVec Ideal S8x4096x512 .bf16) (W : FVec Ideal S1024x5024 .f32)
    (B : FVec Ideal S3072 .f32) (v1 v2 v3 : FVec Ideal S512x1024 .f32) (w : FVec Ideal S1024x1024 .f32)
    (g s : FVec Ideal S1024 .f32) :
    shapeCast S32768x1024 (norm (sums H (merge (gates H W B) (branch o1 v1) (branch o2 v2) (branch o3 v3)) w) g s)
        shapeCasts_S8x4096x1024_S32768x1024
      = result H o1 o2 o3 W B v1 v2 v3 w g s := by
  funext y
  idx_vars y
  have hm : ∀ (b : Fin 8) (r : Fin 4096) (k : Fin 1024),
      merge (gates H W B) (branch o1 v1) (branch o2 v2) (branch o3 v3) (ix3 b r k)
        = merged (fun d => H (ix3 b r d)) (fun e => o1 (ix3 b r e)) (fun e => o2 (ix3 b r e)) (fun e => o3 (ix3 b r e))
            (fun d q => W (ix2 d ⟨1952 + q.val, by omega⟩)) (fun q => B (ix1 q)) (fun e k => v1 (ix2 e k)) (fun e k => v2 (ix2 e k))
            (fun e k => v3 (ix2 e k)) k := fun b r k => by
    rw [merge_at, branch_at, branch_at, branch_at,
      gates_at H W B b r 0 k ⟨k.val, by omega⟩ (by show k.val = 0 * 1024 + k.val; omega),
      gates_at H W B b r 1 k ⟨1024 + k.val, by omega⟩ rfl, gates_at H W B b r 2 k ⟨2048 + k.val, by omega⟩ rfl]
    rfl
  have hc : shapeCast S32768x1024 (norm (sums H (merge (gates H W B) (branch o1 v1) (branch o2 v2) (branch o3 v3)) w) g s)
        shapeCasts_S8x4096x1024_S32768x1024 (ix2 y0 y1)
      = norm (sums H (merge (gates H W B) (branch o1 v1) (branch o2 v2) (branch o3 v3)) w) g s
          (ix3 ⟨y0.val / 4096, by omega⟩ ⟨y0.val % 4096, by omega⟩ y1) := by
    generalize norm (sums H (merge (gates H W B) (branch o1 v1) (branch o2 v2) (branch o3 v3)) w) g s = N
    pointwise
  rw [hc, norm_at]
  simp only [sums_at, hm]
  rfl

/-- The plain output step runs, leaves its arguments, and has this result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ⟨(h c).1.trans ?_, (h c).2⟩) (Value.run m ρ)
  unfold Value.res_main_v55
  generalize m ((c.tc : Thread nD τ).loc main_arg0) = H
  generalize m ((c.tc : Thread nD τ).loc main_arg1) = o1
  generalize m ((c.tc : Thread nD τ).loc main_arg2) = o2
  generalize m ((c.tc : Thread nD τ).loc main_arg3) = o3
  generalize m ((c.tc : Thread nD τ).loc main_arg4) = W
  generalize m ((c.tc : Thread nD τ).loc main_arg5) = B
  generalize m ((c.tc : Thread nD τ).loc main_arg6) = v1
  generalize m ((c.tc : Thread nD τ).loc main_arg7) = v2
  generalize m ((c.tc : Thread nD τ).loc main_arg8) = v3
  generalize m ((c.tc : Thread nD τ).loc main_arg9) = w
  generalize m ((c.tc : Thread nD τ).loc main_arg10) = g
  generalize m ((c.tc : Thread nD τ).loc main_arg11) = s
  exact composed H o1 o2 o3 W B v1 v2 v3 w g s

end Cert.MergeReferenceIdeal.Plain

end
-- ==== Proof.MergeBlock.lean ====
/-
  One grid point of the output call: a block of 1024 rows, four groups of 256 rows at a time, each group's gated
  merge computed 256 columns at a time.
-/
module

public import proofs.«01_k».proof.Proof.MergeRow
public import proofs.«01_k».proof.Proof.Gen.MergeIdeal.Value
public import Idealize.ShloMosaic.Lib.Pipeline.ValueKit

@[expose] public section

set_option maxRecDepth 16384

noncomputable section

namespace Cert.MergeIdeal.Block

open Cert.MergeIdeal Cert.MergeIdeal.Gen Cert.MergeRow
open Idealize.ShloMosaic Idealize.ShloMosaic.TcCoe Idealize.SL.Sem

/-- The output projection of four column groups side by side that hold the row `M`. -/
theorem mix_at (a0 a1 a2 a3 : FVec Ideal S256x256 .bf16) (w : FVec Ideal S1024x1024 .bf16) (M : Fin 1024 → EReal)
    (r : Fin 256) (j : Fin 1024)
    (h0 : ∀ c : Fin 256, a0 (ix2 r c) = M ⟨c.val, by omega⟩) (h1 : ∀ c : Fin 256, a1 (ix2 r c) = M ⟨256 + c.val, by omega⟩)
    (h2 : ∀ c : Fin 256, a2 (ix2 r c) = M ⟨512 + c.val, by omega⟩) (h3 : ∀ c : Fin 256, a3 (ix2 r c) = M ⟨768 + c.val, by omega⟩) :
    matmul dot_S256x1024_S1024x1024_S256x1024_1_0_0_1_n_n none
        (concatenate S256x1024 1 [⟨S256x256, a0⟩, ⟨S256x256, a1⟩, ⟨S256x256, a2⟩, ⟨S256x256, a3⟩] concatenates_S256x256_S256x256_S256x256_S256x256_S256x1024_d1)
        (shapeCast S1024x1024 w shapeCasts_S1024x1024_S1024x1024) (constant (F := Ideal) S256x1024 .f32 0x00000000#32) (ix2 r j)
      = ∑ k : Fin 1024, M k * w (ix2 k j) := by
  pointwise [h0, h1, h2, h3]
  refine Finset.sum_congr rfl fun k _ => congrArg (· * _) ?_
  split
  · rfl
  · split
    · exact congrArg M (Fin.ext (by show 256 + (k.val - 256) = k.val; omega))
    · split
      · exact congrArg M (Fin.ext (by show 512 + (k.val - 256 - 256) = k.val; omega))
      · exact congrArg M (Fin.ext (by show 768 + (k.val - 256 - 256 - 256) = k.val; omega))

variable (x0 : Vec Ideal S1024x1024 .f32) (x1 x2 x3 : Vec Ideal S1024x512 .bf16) (x4 : Vec Ideal S1024x3072 .bf16)
  (x5 : Vec Ideal S1x3072 .f32) (x6 x7 x8 : Vec Ideal S512x1024 .bf16) (x9 : Vec Ideal S1024x1024 .bf16)
  (x10 x11 : Vec Ideal S1x1024 .f32) (x12 : Vec Ideal S2x1024x128 .bf16) (x13 : Vec Ideal S1x128 .f32)

/-- The block's merged row `R`. -/
abbrev merge (R : Fin 1024) : Fin 1024 → EReal :=
  merged (fun d => x0 (ix2 R d)) (fun e => x1 (ix2 R e)) (fun e => x2 (ix2 R e)) (fun e => x3 (ix2 R e)) (fun d q => x4 (ix2 d q))
    (fun q => x5 (ix2 0 q)) (fun e k => x6 (ix2 e k)) (fun e k => x7 (ix2 e k)) (fun e k => x8 (ix2 e k))

/-- The merged row at lane `k`, the gates' places given by their numbers. -/
theorem merge_at (R k : Fin 1024) (k1 k2 k3 : Fin 3072) (h1 : k1.val = k.val) (h2 : k2.val = 1024 + k.val)
    (h3 : k3.val = 2048 + k.val) :
    Ideal.logistic ((∑ d : Fin 1024, x0 (ix2 R d) * x4 (ix2 d k1)) + x5 (ix2 0 k1)) * (∑ e : Fin 512, x1 (ix2 R e) * x6 (ix2 e k))
      + Ideal.logistic ((∑ d : Fin 1024, x0 (ix2 R d) * x4 (ix2 d k2)) + x5 (ix2 0 k2)) * (∑ e : Fin 512, x2 (ix2 R e) * x7 (ix2 e k))
      + Ideal.logistic ((∑ d : Fin 1024, x0 (ix2 R d) * x4 (ix2 d k3)) + x5 (ix2 0 k3)) * (∑ e : Fin 512, x3 (ix2 R e) * x8 (ix2 e k))
    = merge x0 x1 x2 x3 x4 x5 x6 x7 x8 R k := by
  have l1 : k.val < 3072 := lt_trans k.isLt (by decide)
  have l2 : 1024 + k.val < 3072 := lt_of_lt_of_le (Nat.add_lt_add_left k.isLt 1024) (by decide)
  have l3 : 2048 + k.val < 3072 := lt_of_lt_of_le (Nat.add_lt_add_left k.isLt 2048) (by decide)
  obtain rfl : k1 = ⟨k.val, l1⟩ := Fin.ext h1
  obtain rfl : k2 = ⟨1024 + k.val, l2⟩ := Fin.ext h2
  obtain rfl : k3 = ⟨2048 + k.val, l3⟩ := Fin.ext h3
  rfl

/-- The block's output at row `R` and lane `j`. -/
def out (R j : Fin 1024) : EReal :=
  row (fun d => x0 (ix2 R d)) (fun e => x1 (ix2 R e)) (fun e => x2 (ix2 R e)) (fun e => x3 (ix2 R e)) (fun d q => x4 (ix2 d q))
    (fun q => x5 (ix2 0 q)) (fun e k => x6 (ix2 e k)) (fun e k => x7 (ix2 e k)) (fun e k => x8 (ix2 e k)) (fun k n => x9 (ix2 k n))
    (fun k => x10 (ix2 0 k)) (fun k => x11 (ix2 0 k)) j

/-- Rows 0 to 255: the output projection of the merged row. -/
theorem mix0 (r : Fin 256) (j : Fin 1024) :
    k0_pay156 x0 x1 x2 x3 x4 x5 x6 x7 x8 x9 x10 x11 x12 x13 (ix2 r j)
      = ∑ k : Fin 1024, merge x0 x1 x2 x3 x4 x5 x6 x7 x8 ⟨r.val, by omega⟩ k * x9 (ix2 k j) := by
  refine (mix_at _ _ _ _ _ (merge x0 x1 x2 x3 x4 x5 x6 x7 x8 ⟨r.val, by omega⟩) r j ?_ ?_ ?_ ?_).trans ?_
  · intro c
    pointwise [k0_pay155, k0_pay3, k0_pay6, k0_pay4, k0_pay5]
    exact merge_at x0 x1 x2 x3 x4 x5 x6 x7 x8 _ _ _ _ _ rfl rfl rfl
  · intro c
    pointwise [k0_pay155, k0_pay3, k0_pay9, k0_pay7, k0_pay8]
    exact merge_at x0 x1 x2 x3 x4 x5 x6 x7 x8 _ _ _ _ _ rfl (by show 1280 + c.val = 1024 + (256 + c.val); omega)
      (by show 2304 + c.val = 2048 + (256 + c.val); omega)
  · intro c
    pointwise [k0_pay155, k0_pay3, k0_pay11, k0_pay10]
    exact merge_at x0 x1 x2 x3 x4 x5 x6 x7 x8 _ _ _ _ _ rfl (by show 1536 + c.val = 1024 + (512 + c.val); omega)
      (by show 2560 + c.val = 2048 + (512 + c.val); omega)
  · intro c
    pointwise [k0_pay155, k0_pay3, k0_pay13, k0_pay12, k0_pay14, k0_pay15]
    exact merge_at x0 x1 x2 x3 x4 x5 x6 x7 x8 _ _ _ _ _ rfl (by show 1792 + c.val = 1024 + (768 + c.val); omega)
      (by show 2816 + c.val = 2048 + (768 + c.val); omega)
  · pointwise

/-- Rows 256 to 511: the output projection of the merged row. -/
theorem mix1 (r : Fin 256) (j : Fin 1024) :
    k0_pay158 x0 x1 x2 x3 x4 x5 x6 x7 x8 x9 x10 x11 x12 x13 (ix2 r j)
      = ∑ k : Fin 1024, merge x0 x1 x2 x3 x4 x5 x6 x7 x8 ⟨256 + r.val, by omega⟩ k * x9 (ix2 k j) := by
  refine (mix_at _ _ _ _ _ (merge x0 x1 x2 x3 x4 x5 x6 x7 x8 ⟨256 + r.val, by omega⟩) r j ?_ ?_ ?_ ?_).trans ?_
  · intro c
    pointwise [k0_pay157, k0_pay17, k0_pay21, k0_pay18, k0_pay19, k0_pay20]
    exact merge_at x0 x1 x2 x3 x4 x5 x6 x7 x8 _ _ _ _ _ rfl rfl rfl
  · intro c
    pointwise [k0_pay157, k0_pay17, k0_pay23, k0_pay22]
    exact merge_at x0 x1 x2 x3 x4 x5 x6 x7 x8 _ _ _ _ _ rfl (by show 1280 + c.val = 1024 + (256 + c.val); omega)
      (by show 2304 + c.val = 2048 + (256 + c.val); omega)
  · intro c
    pointwise [k0_pay157, k0_pay17, k0_pay28, k0_pay25, k0_pay24, k0_pay26, k0_pay27]
    exact merge_at x0 x1 x2 x3 x4 x5 x6 x7 x8 _ _ _ _ _ rfl (by show 1536 + c.val = 1024 + (512 + c.val); omega)
      (by show 2560 + c.val = 2048 + (512 + c.val); omega)
  · intro c
    pointwise [k0_pay157, k0_pay17, k0_pay29, k0_pay30]
    exact merge_at x0 x1 x2 x3 x4 x5 x6 x7 x8 _ _ _ _ _ rfl (by show 1792 + c.val = 1024 + (768 + c.val); omega)
      (by show 2816 + c.val = 2048 + (768 + c.val); omega)
  · pointwise

/-- Rows 512 to 767: the output projection of the merged row. -/
theorem mix2 (r : Fin 256) (j : Fin 1024) :
    k0_pay170 x0 x1 x2 x3 x4 x5 x6 x7 x8 x9 x10 x11 x12 x13 (ix2 r j)
      = ∑ k : Fin 1024, merge x0 x1 x2 x3 x4 x5 x6 x7 x8 ⟨512 + r.val, by omega⟩ k * x9 (ix2 k j) := by
  refine (mix_at _ _ _ _ _ (merge x0 x1 x2 x3 x4 x5 x6 x7 x8 ⟨512 + r.val, by omega⟩) r j ?_ ?_ ?_ ?_).trans ?_
  · intro c
    pointwise [k0_pay169, k0_pay54, k0_pay57, k0_pay55, k0_pay56]
    exact merge_at x0 x1 x2 x3 x4 x5 x6 x7 x8 _ _ _ _ _ rfl rfl rfl
  · intro c
    pointwise [k0_pay169, k0_pay54, k0_pay61, k0_pay58, k0_pay59, k0_pay60]
    exact merge_at x0 x1 x2 x3 x4 x5 x6 x7 x8 _ _ _ _ _ rfl (by show 1280 + c.val = 1024 + (256 + c.val); omega)
      (by show 2304 + c.val = 2048 + (256 + c.val); omega)
  · intro c
    pointwise [k0_pay169, k0_pay54, k0_pay64, k0_pay62, k0_pay63]
    exact merge_at x0 x1 x2 x3 x4 x5 x6 x7 x8 _ _ _ _ _ rfl (by show 1536 + c.val = 1024 + (512 + c.val); omega)
      (by show 2560 + c.val = 2048 + (512 + c.val); omega)
  · intro c
    pointwise [k0_pay169, k0_pay54, k0_pay66, k0_pay65, k0_pay67]
    exact merge_at x0 x1 x2 x3 x4 x5 x6 x7 x8 _ _ _ _ _ rfl (by show 1792 + c.val = 1024 + (768 + c.val); omega)
      (by show 2816 + c.val = 2048 + (768 + c.val); omega)
  · pointwise

/-- Rows 768 to 1023: the output projection of the merged row. -/
theorem mix3 (r : Fin 256) (j : Fin 1024) :
    k0_pay178 x0 x1 x2 x3 x4 x5 x6 x7 x8 x9 x10 x11 x12 x13 (ix2 r j)
      = ∑ k : Fin 1024, merge x0 x1 x2 x3 x4 x5 x6 x7 x8 ⟨768 + r.val, by omega⟩ k * x9 (ix2 k j) := by
  refine (mix_at _ _ _ _ _ (merge x0 x1 x2 x3 x4 x5 x6 x7 x8 ⟨768 + r.val, by omega⟩) r j ?_ ?_ ?_ ?_).trans ?_
  · intro c
    pointwise [k0_pay177, k0_pay93, k0_pay96, k0_pay95, k0_pay94]
    exact merge_at x0 x1 x2 x3 x4 x5 x6 x7 x8 _ _ _ _ _ rfl rfl rfl
  · intro c
    pointwise [k0_pay177, k0_pay93, k0_pay100, k0_pay97, k0_pay98, k0_pay99]
    exact merge_at x0 x1 x2 x3 x4 x5 x6 x7 x8 _ _ _ _ _ rfl (by show 1280 + c.val = 1024 + (256 + c.val); omega)
      (by show 2304 + c.val = 2048 + (256 + c.val); omega)
  · intro c
    pointwise [k0_pay177, k0_pay93, k0_pay104, k0_pay101, k0_pay102, k0_pay103]
    exact merge_at x0 x1 x2 x3 x4 x5 x6 x7 x8 _ _ _ _ _ rfl (by show 1536 + c.val = 1024 + (512 + c.val); omega)
      (by show 2560 + c.val = 2048 + (512 + c.val); omega)
  · intro c
    pointwise [k0_pay177, k0_pay93, k0_pay105, k0_pay106]
    exact merge_at x0 x1 x2 x3 x4 x5 x6 x7 x8 _ _ _ _ _ rfl (by show 1792 + c.val = 1024 + (768 + c.val); omega)
      (by show 2816 + c.val = 2048 + (768 + c.val); omega)
  · pointwise

/-- Rows 0 to 255: the addition and the normalisation, for any projected rows `v`. -/
theorem norm0 (v : FVec Ideal S256x1024 .f32) (r : Fin 256) (j : Fin 1024) :
    k0_pay36 (F := Ideal) (k0_pay32 (View.ld x10 r0_33)) (k0_pay33 (View.ld x11 r0_33)) (k0_pay34 v (View.ld x0 r0_0)) (k0_pay35 v (View.ld x0 r0_0)) (ix2 r j)
      = normed (added (fun d => x0 (ix2 ⟨r.val, by omega⟩ d)) fun n => v (ix2 r n)) (fun k => x10 (ix2 0 k)) (fun k => x11 (ix2 0 k)) j := by
  pointwise [k0_pay36, k0_pay32, k0_pay33, k0_pay34, k0_pay35]
  rfl

/-- Rows 256 to 511: the addition and the normalisation, for any projected rows `v`. -/
theorem norm1 (v : FVec Ideal S256x1024 .f32) (r : Fin 256) (j : Fin 1024) :
    k0_pay69 (F := Ideal) v (View.ld x0 r0_31) (View.ld x10 r0_33) (View.ld x11 r0_33) (ix2 r j)
      = normed (added (fun d => x0 (ix2 ⟨256 + r.val, by omega⟩ d)) fun n => v (ix2 r n)) (fun k => x10 (ix2 0 k)) (fun k => x11 (ix2 0 k)) j := by
  pointwise [k0_pay69]
  rfl

/-- Rows 512 to 767: the addition and the normalisation, for any projected rows `v`. -/
theorem norm2 (v : FVec Ideal S256x1024 .f32) (r : Fin 256) (j : Fin 1024) :
    k0_pay109 (F := Ideal) v (k0_pay108 (View.ld x0 r0_38)) (View.ld x10 r0_33) (View.ld x11 r0_33) (ix2 r j)
      = normed (added (fun d => x0 (ix2 ⟨512 + r.val, by omega⟩ d)) fun n => v (ix2 r n)) (fun k => x10 (ix2 0 k)) (fun k => x11 (ix2 0 k)) j := by
  pointwise [k0_pay109, k0_pay108]
  rfl

/-- Rows 768 to 1023: the addition and the normalisation, for any projected rows `v`. -/
theorem norm3 (v : FVec Ideal S256x1024 .f32) (r : Fin 256) (j : Fin 1024) :
    k0_pay135 (F := Ideal) (k0_pay131 (View.ld x10 r0_33)) (k0_pay132 (View.ld x11 r0_33)) (k0_pay133 v (View.ld x0 r0_41)) (k0_pay134 v (View.ld x0 r0_41)) (ix2 r j)
      = normed (added (fun d => x0 (ix2 ⟨768 + r.val, by omega⟩ d)) fun n => v (ix2 r n)) (fun k => x10 (ix2 0 k)) (fun k => x11 (ix2 0 k)) j := by
  pointwise [k0_pay135, k0_pay131, k0_pay132, k0_pay133, k0_pay134]
  rfl

/-- Rows 0 to 255 of the block's output. -/
theorem rows0 (r : Fin 256) (j : Fin 1024) :
    k0_pay36 (k0_pay159 x0 x1 x2 x3 x4 x5 x6 x7 x8 x9 x10 x11 x12 x13) (k0_pay160 x0 x1 x2 x3 x4 x5 x6 x7 x8 x9 x10 x11 x12 x13) (k0_pay161 x0 x1 x2 x3 x4 x5 x6 x7 x8 x9 x10 x11 x12 x13) (k0_pay162 x0 x1 x2 x3 x4 x5 x6 x7 x8 x9 x10 x11 x12 x13) (ix2 r j)
      = out x0 x1 x2 x3 x4 x5 x6 x7 x8 x9 x10 x11 ⟨r.val, by omega⟩ j := by
  refine (norm0 x0 x10 x11 _ r j).trans (congrArg (fun p => normed (added _ p) _ _ j) ?_)
  funext n
  exact mix0 x0 x1 x2 x3 x4 x5 x6 x7 x8 x9 x10 x11 x12 x13 r n

/-- Rows 256 to 511 of the block's output. -/
theorem rows1 (r : Fin 256) (j : Fin 1024) :
    k0_pay69 (k0_pay158 x0 x1 x2 x3 x4 x5 x6 x7 x8 x9 x10 x11 x12 x13) (View.ld x0 r0_31) (View.ld x10 r0_33) (View.ld x11 r0_33) (ix2 r j)
      = out x0 x1 x2 x3 x4 x5 x6 x7 x8 x9 x10 x11 ⟨256 + r.val, by omega⟩ j := by
  refine (norm1 x0 x10 x11 _ r j).trans (congrArg (fun p => normed (added _ p) _ _ j) ?_)
  funext n
  exact mix1 x0 x1 x2 x3 x4 x5 x6 x7 x8 x9 x10 x11 x12 x13 r n

/-- Rows 512 to 767 of the block's output. -/
theorem rows2 (r : Fin 256) (j : Fin 1024) :
    k0_pay109 (k0_pay170 x0 x1 x2 x3 x4 x5 x6 x7 x8 x9 x10 x11 x12 x13) (k0_pay179 x0 x1 x2 x3 x4 x5 x6 x7 x8 x9 x10 x11 x12 x13) (View.ld x10 r0_33) (View.ld x11 r0_33) (ix2 r j)
      = out x0 x1 x2 x3 x4 x5 x6 x7 x8 x9 x10 x11 ⟨512 + r.val, by omega⟩ j := by
  refine (norm2 x0 x10 x11 _ r j).trans (congrArg (fun p => normed (added _ p) _ _ j) ?_)
  funext n
  exact mix2 x0 x1 x2 x3 x4 x5 x6 x7 x8 x9 x10 x11 x12 x13 r n

/-- Rows 768 to 1023 of the block's output. -/
theorem rows3 (r : Fin 256) (j : Fin 1024) :
    k0_pay135 (k0_pay185 x0 x1 x2 x3 x4 x5 x6 x7 x8 x9 x10 x11 x12 x13) (k0_pay186 x0 x1 x2 x3 x4 x5 x6 x7 x8 x9 x10 x11 x12 x13) (k0_pay187 x0 x1 x2 x3 x4 x5 x6 x7 x8 x9 x10 x11 x12 x13) (k0_pay188 x0 x1 x2 x3 x4 x5 x6 x7 x8 x9 x10 x11 x12 x13) (ix2 r j)
      = out x0 x1 x2 x3 x4 x5 x6 x7 x8 x9 x10 x11 ⟨768 + r.val, by omega⟩ j := by
  refine (norm3 x0 x10 x11 _ r j).trans (congrArg (fun p => normed (added _ p) _ _ j) ?_)
  funext n
  exact mix3 x0 x1 x2 x3 x4 x5 x6 x7 x8 x9 x10 x11 x12 x13 r n

/-- An element of what a grid point writes. -/
theorem out_at (R j : Fin 1024) :
    out0_14 x0 x1 x2 x3 x4 x5 x6 x7 x8 x9 x10 x11 x12 x13 (ix2 R j) = out x0 x1 x2 x3 x4 x5 x6 x7 x8 x9 x10 x11 R j := by
  canon_tiles z h
  all_goals
    idx_vars z
    obtain rfl : j = z1 := Fin.ext h1
  · rw [show R = ⟨768 + z0.val, by omega⟩ from Fin.ext h0]
    exact rows3 x0 x1 x2 x3 x4 x5 x6 x7 x8 x9 x10 x11 x12 x13 z0 j
  · rw [show R = ⟨512 + z0.val, by omega⟩ from Fin.ext h0]
    exact rows2 x0 x1 x2 x3 x4 x5 x6 x7 x8 x9 x10 x11 x12 x13 z0 j
  · rw [show R = ⟨256 + z0.val, by omega⟩ from Fin.ext h0]
    exact rows1 x0 x1 x2 x3 x4 x5 x6 x7 x8 x9 x10 x11 x12 x13 z0 j
  · rw [show R = ⟨z0.val, by omega⟩ from Fin.ext h0]
    exact rows0 x0 x1 x2 x3 x4 x5 x6 x7 x8 x9 x10 x11 x12 x13 z0 j

end Cert.MergeIdeal.Block

end
-- ==== Proof.MergeValue.lean ====
/-
  The output call's first result array: each row merged, projected and normalised.
-/
module

public import proofs.«01_k».proof.Proof.MergeBlock
public import proofs.«01_k».proof.Proof.MergeReference
public import Idealize.ShloMosaic.Lib.Pipeline.ValueKit
public import Idealize.ShloMosaic.Lib.Pipeline.Covers
public import Idealize.ShloMosaic.Lib.Pointwise

@[expose] public section

set_option maxRecDepth 16384

noncomputable section

namespace Cert.MergeIdeal.Array

open Cert.MergeIdeal Cert.MergeIdeal.Gen Cert.MergeIdeal.Value
open Cert.MergeReferenceIdeal.Plain (entry)
open Idealize.ShloMosaic Idealize.ShloMosaic.TcCoe

variable (m : (ℓ : Loc nD τ sig) → Buf (Elt Ideal) ℓ)

/-! ## Where the blocks sit -/

theorem idx0 : ∀ t : Fin cfg0.N, win0_0.index t = ![t.val, 0] :=
  (by decide +kernel : ∀ t : Fin grid0.N, win0_0.index t = ![t.val, 0])

theorem idx1 : ∀ t : Fin cfg0.N, win0_1.index t = ![t.val, 0] :=
  (by decide +kernel : ∀ t : Fin grid0.N, win0_1.index t = ![t.val, 0])

theorem idx2 : ∀ t : Fin cfg0.N, win0_2.index t = ![t.val, 0] :=
  (by decide +kernel : ∀ t : Fin grid0.N, win0_2.index t = ![t.val, 0])

theorem idx3 : ∀ t : Fin cfg0.N, win0_3.index t = ![t.val, 0] :=
  (by decide +kernel : ∀ t : Fin grid0.N, win0_3.index t = ![t.val, 0])

theorem idx14 : ∀ t : Fin cfg0.N, win0_14.index t = ![t.val, 0] :=
  (by decide +kernel : ∀ t : Fin grid0.N, win0_14.index t = ![t.val, 0])

theorem idx4 : ∀ t : Fin cfg0.N, win0_4.index t = ![0, 0] :=
  (by decide +kernel : ∀ t : Fin grid0.N, win0_4.index t = ![0, 0])

theorem idx5 : ∀ t : Fin cfg0.N, win0_5.index t = ![0, 0] :=
  (by decide +kernel : ∀ t : Fin grid0.N, win0_5.index t = ![0, 0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx8 : ∀ t : Fin cfg0.N, win0_8.index t = ![0, 0] :=
  (by decide +kernel : ∀ t : Fin grid0.N, win0_8.index t = ![0, 0])

theorem idx9 : ∀ t : Fin cfg0.N, win0_9.index t = ![0, 0] :=
  (by decide +kernel : ∀ t : Fin grid0.N, win0_9.index t = ![0, 0])

theorem idx10 : ∀ t : Fin cfg0.N, win0_10.index t = ![0, 0] :=
  (by decide +kernel : ∀ t : Fin grid0.N, win0_10.index t = ![0, 0])

theorem idx11 : ∀ t : Fin cfg0.N, win0_11.index t = ![0, 0] :=
  (by decide +kernel : ∀ t : Fin grid0.N, win0_11.index t = ![0, 0])

/-! ## The blocks -/

/-- The array of window 0. -/
theorem array0 (c : Dev nD) : V m c (Pipeline.arrRef spec0 0) = V m c main_v12 := rfl

/-- A read of any array through the block of window 0. -/
theorem read0 (c : Dev nD) (t : Fin cfg0.N) (A : Buf (Elt Ideal) ((c : Thread nD τ).loc (Pipeline.arrRef spec0 0)))
    (y : S1024x1024.Idx) : ((cfg0.win 0).blk t).view.read (Elt Ideal) A y = A ((win0_0.blk t).view.emb y) := rfl

/-- The block of window 0 is the array read where the block sits. -/
theorem block0 (c : Dev nD) (t : Fin cfg0.N) (y : S1024x1024.Idx) :
    iblk m c 0 t y = V m c main_v12 ((win0_0.blk t).view.emb y) :=
  (read0 c t (V m c (Pipeline.arrRef spec0 0)) y).trans (congrFun (array0 m c) _)

/-- Its element, of the operand given. -/
theorem rows0 (c : Dev nD) (t : Fin cfg0.N) (R : Fin 1024) (d : Fin 1024) (b : Fin 8) (r : Fin 4096)
    (h : b.val * 4096 + r.val = t.val * 1024 + R.val) :
    (show FVec Ideal S1024x1024 .f32 from iblk m c 0 t) (ix2 R d)
      = (show FVec Ideal S8x4096x1024 .f32 from m ((c : Thread nD τ).loc main_arg0)) (ix3 b r d) := by
  have hl : b.val * 4096 + r.val < 32768 := by omega
  have hv : (show FVec Ideal S32768x1024 .f32 from V m c main_v12) (ix2 ⟨b.val * 4096 + r.val, hl⟩ d)
      = (show FVec Ideal S8x4096x1024 .f32 from m ((c : Thread nD τ).loc main_arg0)) (ix3 b r d) := by
    simp only [V, hostOps0, hostOps0_1, hostOps0_2, hostOps0_3, hostOps0_4, List.flatten_cons, List.flatten_nil, List.append_nil,
      List.cons_append, List.nil_append]
    entry_read
    pointwise
  rw [← hv]
  refine (block0 m c t (ix2 R d)).trans (congrArg _ ?_)
  blk_ext [idx0 t]

/-- The array of window 1. -/
theorem array1 (c : Dev nD) : V m c (Pipeline.arrRef spec0 1) = V m c main_v13 := rfl

/-- A read of any array through the block of window 1. -/
theorem read1 (c : Dev nD) (t : Fin cfg0.N) (A : Buf (Elt Ideal) ((c : Thread nD τ).loc (Pipeline.arrRef spec0 1)))
    (y : S1024x512.Idx) : ((cfg0.win 1).blk t).view.read (Elt Ideal) A y = A ((win0_1.blk t).view.emb y) := rfl

/-- The block of window 1 is the array read where the block sits. -/
theorem block1 (c : Dev nD) (t : Fin cfg0.N) (y : S1024x512.Idx) :
    iblk m c 1 t y = V m c main_v13 ((win0_1.blk t).view.emb y) :=
  (read1 c t (V m c (Pipeline.arrRef spec0 1)) y).trans (congrFun (array1 m c) _)

/-- Its element, of the operand given. -/
theorem rows1 (c : Dev nD) (t : Fin cfg0.N) (R : Fin 1024) (d : Fin 512) (b : Fin 8) (r : Fin 4096)
    (h : b.val * 4096 + r.val = t.val * 1024 + R.val) :
    (show FVec Ideal S1024x512 .bf16 from iblk m c 1 t) (ix2 R d)
      = (show FVec Ideal S8x4096x512 .bf16 from m ((c : Thread nD τ).loc main_arg1)) (ix3 b r d) := by
  have hl : b.val * 4096 + r.val < 32768 := by omega
  have hv : (show FVec Ideal S32768x512 .bf16 from V m c main_v13) (ix2 ⟨b.val * 4096 + r.val, hl⟩ d)
      = (show FVec Ideal S8x4096x512 .bf16 from m ((c : Thread nD τ).loc main_arg1)) (ix3 b r d) := by
    simp only [V, hostOps0, hostOps0_1, hostOps0_2, hostOps0_3, hostOps0_4, List.flatten_cons, List.flatten_nil, List.append_nil,
      List.cons_append, List.nil_append]
    entry_read
    pointwise
  rw [← hv]
  refine (block1 m c t (ix2 R d)).trans (congrArg _ ?_)
  blk_ext [idx1 t]

/-- The array of window 2. -/
theorem array2 (c : Dev nD) : V m c (Pipeline.arrRef spec0 2) = V m c main_v14 := rfl

/-- A read of any array through the block of window 2. -/
theorem read2 (c : Dev nD) (t : Fin cfg0.N) (A : Buf (Elt Ideal) ((c : Thread nD τ).loc (Pipeline.arrRef spec0 2)))
    (y : S1024x512.Idx) : ((cfg0.win 2).blk t).view.read (Elt Ideal) A y = A ((win0_2.blk t).view.emb y) := rfl

/-- The block of window 2 is the array read where the block sits. -/
theorem block2 (c : Dev nD) (t : Fin cfg0.N) (y : S1024x512.Idx) :
    iblk m c 2 t y = V m c main_v14 ((win0_2.blk t).view.emb y) :=
  (read2 c t (V m c (Pipeline.arrRef spec0 2)) y).trans (congrFun (array2 m c) _)

/-- Its element, of the operand given. -/
theorem rows2 (c : Dev nD) (t : Fin cfg0.N) (R : Fin 1024) (d : Fin 512) (b : Fin 8) (r : Fin 4096)
    (h : b.val * 4096 + r.val = t.val * 1024 + R.val) :
    (show FVec Ideal S1024x512 .bf16 from iblk m c 2 t) (ix2 R d)
      = (show FVec Ideal S8x4096x512 .bf16 from m ((c : Thread nD τ).loc main_arg2)) (ix3 b r d) := by
  have hl : b.val * 4096 + r.val < 32768 := by omega
  have hv : (show FVec Ideal S32768x512 .bf16 from V m c main_v14) (ix2 ⟨b.val * 4096 + r.val, hl⟩ d)
      = (show FVec Ideal S8x4096x512 .bf16 from m ((c : Thread nD τ).loc main_arg2)) (ix3 b r d) := by
    simp only [V, hostOps0, hostOps0_1, hostOps0_2, hostOps0_3, hostOps0_4, List.flatten_cons, List.flatten_nil, List.append_nil,
      List.cons_append, List.nil_append]
    entry_read
    pointwise
  rw [← hv]
  refine (block2 m c t (ix2 R d)).trans (congrArg _ ?_)
  blk_ext [idx2 t]

/-- The array of window 3. -/
theorem array3 (c : Dev nD) : V m c (Pipeline.arrRef spec0 3) = V m c main_v15 := rfl

/-- A read of any array through the block of window 3. -/
theorem read3 (c : Dev nD) (t : Fin cfg0.N) (A : Buf (Elt Ideal) ((c : Thread nD τ).loc (Pipeline.arrRef spec0 3)))
    (y : S1024x512.Idx) : ((cfg0.win 3).blk t).view.read (Elt Ideal) A y = A ((win0_3.blk t).view.emb y) := rfl

/-- The block of window 3 is the array read where the block sits. -/
theorem block3 (c : Dev nD) (t : Fin cfg0.N) (y : S1024x512.Idx) :
    iblk m c 3 t y = V m c main_v15 ((win0_3.blk t).view.emb y) :=
  (read3 c t (V m c (Pipeline.arrRef spec0 3)) y).trans (congrFun (array3 m c) _)

/-- Its element, of the operand given. -/
theorem rows3 (c : Dev nD) (t : Fin cfg0.N) (R : Fin 1024) (d : Fin 512) (b : Fin 8) (r : Fin 4096)
    (h : b.val * 4096 + r.val = t.val * 1024 + R.val) :
    (show FVec Ideal S1024x512 .bf16 from iblk m c 3 t) (ix2 R d)
      = (show FVec Ideal S8x4096x512 .bf16 from m ((c : Thread nD τ).loc main_arg3)) (ix3 b r d) := by
  have hl : b.val * 4096 + r.val < 32768 := by omega
  have hv : (show FVec Ideal S32768x512 .bf16 from V m c main_v15) (ix2 ⟨b.val * 4096 + r.val, hl⟩ d)
      = (show FVec Ideal S8x4096x512 .bf16 from m ((c : Thread nD τ).loc main_arg3)) (ix3 b r d) := by
    simp only [V, hostOps0, hostOps0_1, hostOps0_2, hostOps0_3, hostOps0_4, List.flatten_cons, List.flatten_nil, List.append_nil,
      List.cons_append, List.nil_append]
    entry_read
    pointwise
  rw [← hv]
  refine (block3 m c t (ix2 R d)).trans (congrArg _ ?_)
  blk_ext [idx3 t]

/-- The array of window 4. -/
theorem array4 (c : Dev nD) : V m c (Pipeline.arrRef spec0 4) = V m c main_v1 := rfl

/-- A read of any array through the block of window 4. -/
theorem read4 (c : Dev nD) (t : Fin cfg0.N) (A : Buf (Elt Ideal) ((c : Thread nD τ).loc (Pipeline.arrRef spec0 4)))
    (y : S1024x3072.Idx) : ((cfg0.win 4).blk t).view.read (Elt Ideal) A y = A ((win0_4.blk t).view.emb y) := rfl

/-- The block of window 4 is the array read where the block sits. -/
theorem block4 (c : Dev nD) (t : Fin cfg0.N) (y : S1024x3072.Idx) :
    iblk m c 4 t y = V m c main_v1 ((win0_4.blk t).view.emb y) :=
  (read4 c t (V m c (Pipeline.arrRef spec0 4)) y).trans (congrFun (array4 m c) _)

/-- Its element, of the operand given. -/
theorem whole4 (c : Dev nD) (t : Fin cfg0.N) (d : Fin 1024) (q : Fin 3072) :
    (show FVec Ideal S1024x3072 .bf16 from iblk m c 4 t) (ix2 d q)
      = (show FVec Ideal S1024x5024 .f32 from m ((c : Thread nD τ).loc main_arg4)) (ix2 d ⟨1952 + q.val, by omega⟩) := by
  have hv : (show FVec Ideal S1024x3072 .bf16 from V m c main_v1) (ix2 d q)
      = (show FVec Ideal S1024x5024 .f32 from m ((c : Thread nD τ).loc main_arg4)) (ix2 d ⟨1952 + q.val, by omega⟩) := by
    simp only [V, hostOps0, hostOps0_1, hostOps0_2, hostOps0_3, hostOps0_4, List.flatten_cons, List.flatten_nil, List.append_nil,
      List.cons_append, List.nil_append]
    entry_read
    pointwise
  rw [← hv]
  refine (block4 m c t (ix2 d q)).trans (congrArg _ ?_)
  blk_ext [idx4 t]

/-- The array of window 5. -/
theorem array5 (c : Dev nD) : V m c (Pipeline.arrRef spec0 5) = V m c main_v16 := rfl

/-- A read of any array through the block of window 5. -/
theorem read5 (c : Dev nD) (t : Fin cfg0.N) (A : Buf (Elt Ideal) ((c : Thread nD τ).loc (Pipeline.arrRef spec0 5)))
    (y : S1x3072.Idx) : ((cfg0.win 5).blk t).view.read (Elt Ideal) A y = A ((win0_5.blk t).view.emb y) := rfl

/-- The block of window 5 is the array read where the block sits. -/
theorem block5 (c : Dev nD) (t : Fin cfg0.N) (y : S1x3072.Idx) :
    iblk m c 5 t y = V m c main_v16 ((win0_5.blk t).view.emb y) :=
  (read5 c t (V m c (Pipeline.arrRef spec0 5)) y).trans (congrFun (array5 m c) _)

/-- Its element, of the operand given. -/
theorem whole5 (c : Dev nD) (t : Fin cfg0.N) (q : Fin 3072) :
    (show FVec Ideal S1x3072 .f32 from iblk m c 5 t) (ix2 0 q)
      = (show FVec Ideal S3072 .f32 from m ((c : Thread nD τ).loc main_arg5)) (ix1 q) := by
  have hv : (show FVec Ideal S1x3072 .f32 from V m c main_v16) (ix2 0 q)
      = (show FVec Ideal S3072 .f32 from m ((c : Thread nD τ).loc main_arg5)) (ix1 q) := by
    simp only [V, hostOps0, hostOps0_1, hostOps0_2, hostOps0_3, hostOps0_4, List.flatten_cons, List.flatten_nil, List.append_nil,
      List.cons_append, List.nil_append]
    entry_read
    pointwise
  rw [← hv]
  refine (block5 m c t (ix2 0 q)).trans (congrArg _ ?_)
  blk_ext [idx5 t]

/-- The array of window 6. -/
theorem array6 (c : Dev nD) : V m c (Pipeline.arrRef spec0 6) = V m c main_v17 := rfl

/-- A read of any array through the block of window 6. -/
theorem read6 (c : Dev nD) (t : Fin cfg0.N) (A : Buf (Elt Ideal) ((c : Thread nD τ).loc (Pipeline.arrRef spec0 6)))
    (y : S512x1024.Idx) : ((cfg0.win 6).blk t).view.read (Elt Ideal) A y = A ((win0_6.blk t).view.emb y) := rfl

/-- The block of window 6 is the array read where the block sits. -/
theorem block6 (c : Dev nD) (t : Fin cfg0.N) (y : S512x1024.Idx) :
    iblk m c 6 t y = V m c main_v17 ((win0_6.blk t).view.emb y) :=
  (read6 c t (V m c (Pipeline.arrRef spec0 6)) y).trans (congrFun (array6 m c) _)

/-- Its element, of the operand given. -/
theorem whole6 (c : Dev nD) (t : Fin cfg0.N) (e : Fin 512) (k : Fin 1024) :
    (show FVec Ideal S512x1024 .bf16 from iblk m c 6 t) (ix2 e k)
      = (show FVec Ideal S512x1024 .f32 from m ((c : Thread nD τ).loc main_arg6)) (ix2 e k) := by
  have hv : (show FVec Ideal S512x1024 .bf16 from V m c main_v17) (ix2 e k)
      = (show FVec Ideal S512x1024 .f32 from m ((c : Thread nD τ).loc main_arg6)) (ix2 e k) := by
    simp only [V, hostOps0, hostOps0_1, hostOps0_2, hostOps0_3, hostOps0_4, List.flatten_cons, List.flatten_nil, List.append_nil,
      List.cons_append, List.nil_append]
    entry_read
    pointwise
  rw [← hv]
  refine (block6 m c t (ix2 e k)).trans (congrArg _ ?_)
  blk_ext [idx6 t]

/-- The array of window 7. -/
theorem array7 (c : Dev nD) : V m c (Pipeline.arrRef spec0 7) = V m c main_v18 := rfl

/-- A read of any array through the block of window 7. -/
theorem read7 (c : Dev nD) (t : Fin cfg0.N) (A : Buf (Elt Ideal) ((c : Thread nD τ).loc (Pipeline.arrRef spec0 7)))
    (y : S512x1024.Idx) : ((cfg0.win 7).blk t).view.read (Elt Ideal) A y = A ((win0_7.blk t).view.emb y) := rfl

/-- The block of window 7 is the array read where the block sits. -/
theorem block7 (c : Dev nD) (t : Fin cfg0.N) (y : S512x1024.Idx) :
    iblk m c 7 t y = V m c main_v18 ((win0_7.blk t).view.emb y) :=
  (read7 c t (V m c (Pipeline.arrRef spec0 7)) y).trans (congrFun (array7 m c) _)

/-- Its element, of the operand given. -/
theorem whole7 (c : Dev nD) (t : Fin cfg0.N) (e : Fin 512) (k : Fin 1024) :
    (show FVec Ideal S512x1024 .bf16 from iblk m c 7 t) (ix2 e k)
      = (show FVec Ideal S512x1024 .f32 from m ((c : Thread nD τ).loc main_arg7)) (ix2 e k) := by
  have hv : (show FVec Ideal S512x1024 .bf16 from V m c main_v18) (ix2 e k)
      = (show FVec Ideal S512x1024 .f32 from m ((c : Thread nD τ).loc main_arg7)) (ix2 e k) := by
    simp only [V, hostOps0, hostOps0_1, hostOps0_2, hostOps0_3, hostOps0_4, List.flatten_cons, List.flatten_nil, List.append_nil,
      List.cons_append, List.nil_append]
    entry_read
    pointwise
  rw [← hv]
  refine (block7 m c t (ix2 e k)).trans (congrArg _ ?_)
  blk_ext [idx7 t]

/-- The array of window 8. -/
theorem array8 (c : Dev nD) : V m c (Pipeline.arrRef spec0 8) = V m c main_v19 := rfl

/-- A read of any array through the block of window 8. -/
theorem read8 (c : Dev nD) (t : Fin cfg0.N) (A : Buf (Elt Ideal) ((c : Thread nD τ).loc (Pipeline.arrRef spec0 8)))
    (y : S512x1024.Idx) : ((cfg0.win 8).blk t).view.read (Elt Ideal) A y = A ((win0_8.blk t).view.emb y) := rfl

/-- The block of window 8 is the array read where the block sits. -/
theorem block8 (c : Dev nD) (t : Fin cfg0.N) (y : S512x1024.Idx) :
    iblk m c 8 t y = V m c main_v19 ((win0_8.blk t).view.emb y) :=
  (read8 c t (V m c (Pipeline.arrRef spec0 8)) y).trans (congrFun (array8 m c) _)

/-- Its element, of the operand given. -/
theorem whole8 (c : Dev nD) (t : Fin cfg0.N) (e : Fin 512) (k : Fin 1024) :
    (show FVec Ideal S512x1024 .bf16 from iblk m c 8 t) (ix2 e k)
      = (show FVec Ideal S512x1024 .f32 from m ((c : Thread nD τ).loc main_arg8)) (ix2 e k) := by
  have hv : (show FVec Ideal S512x1024 .bf16 from V m c main_v19) (ix2 e k)
      = (show FVec Ideal S512x1024 .f32 from m ((c : Thread nD τ).loc main_arg8)) (ix2 e k) := by
    simp only [V, hostOps0, hostOps0_1, hostOps0_2, hostOps0_3, hostOps0_4, List.flatten_cons, List.flatten_nil, List.append_nil,
      List.cons_append, List.nil_append]
    entry_read
    pointwise
  rw [← hv]
  refine (block8 m c t (ix2 e k)).trans (congrArg _ ?_)
  blk_ext [idx8 t]

/-- The array of window 9. -/
theorem array9 (c : Dev nD) : V m c (Pipeline.arrRef spec0 9) = V m c main_v20 := rfl

/-- A read of any array through the block of window 9. -/
theorem read9 (c : Dev nD) (t : Fin cfg0.N) (A : Buf (Elt Ideal) ((c : Thread nD τ).loc (Pipeline.arrRef spec0 9)))
    (y : S1024x1024.Idx) : ((cfg0.win 9).blk t).view.read (Elt Ideal) A y = A ((win0_9.blk t).view.emb y) := rfl

/-- The block of window 9 is the array read where the block sits. -/
theorem block9 (c : Dev nD) (t : Fin cfg0.N) (y : S1024x1024.Idx) :
    iblk m c 9 t y = V m c main_v20 ((win0_9.blk t).view.emb y) :=
  (read9 c t (V m c (Pipeline.arrRef spec0 9)) y).trans (congrFun (array9 m c) _)

/-- Its element, of the operand given. -/
theorem whole9 (c : Dev nD) (t : Fin cfg0.N) (k n : Fin 1024) :
    (show FVec Ideal S1024x1024 .bf16 from iblk m c 9 t) (ix2 k n)
      = (show FVec Ideal S1024x1024 .f32 from m ((c : Thread nD τ).loc main_arg9)) (ix2 k n) := by
  have hv : (show FVec Ideal S1024x1024 .bf16 from V m c main_v20) (ix2 k n)
      = (show FVec Ideal S1024x1024 .f32 from m ((c : Thread nD τ).loc main_arg9)) (ix2 k n) := by
    simp only [V, hostOps0, hostOps0_1, hostOps0_2, hostOps0_3, hostOps0_4, List.flatten_cons, List.flatten_nil, List.append_nil,
      List.cons_append, List.nil_append]
    entry_read
    pointwise
  rw [← hv]
  refine (block9 m c t (ix2 k n)).trans (congrArg _ ?_)
  blk_ext [idx9 t]

/-- The array of window 10. -/
theorem array10 (c : Dev nD) : V m c (Pipeline.arrRef spec0 10) = V m c main_v21 := rfl

/-- A read of any array through the block of window 10. -/
theorem read10 (c : Dev nD) (t : Fin cfg0.N) (A : Buf (Elt Ideal) ((c : Thread nD τ).loc (Pipeline.arrRef spec0 10)))
    (y : S1x1024.Idx) : ((cfg0.win 10).blk t).view.read (Elt Ideal) A y = A ((win0_10.blk t).view.emb y) := rfl

/-- The block of window 10 is the array read where the block sits. -/
theorem block10 (c : Dev nD) (t : Fin cfg0.N) (y : S1x1024.Idx) :
    iblk m c 10 t y = V m c main_v21 ((win0_10.blk t).view.emb y) :=
  (read10 c t (V m c (Pipeline.arrRef spec0 10)) y).trans (congrFun (array10 m c) _)

/-- Its element, of the operand given. -/
theorem whole10 (c : Dev nD) (t : Fin cfg0.N) (k : Fin 1024) :
    (show FVec Ideal S1x1024 .f32 from iblk m c 10 t) (ix2 0 k)
      = (show FVec Ideal S1024 .f32 from m ((c : Thread nD τ).loc main_arg10)) (ix1 k) := by
  have hv : (show FVec Ideal S1x1024 .f32 from V m c main_v21) (ix2 0 k)
      = (show FVec Ideal S1024 .f32 from m ((c : Thread nD τ).loc main_arg10)) (ix1 k) := by
    simp only [V, hostOps0, hostOps0_1, hostOps0_2, hostOps0_3, hostOps0_4, List.flatten_cons, List.flatten_nil, List.append_nil,
      List.cons_append, List.nil_append]
    entry_read
    pointwise
  rw [← hv]
  refine (block10 m c t (ix2 0 k)).trans (congrArg _ ?_)
  blk_ext [idx10 t]

/-- The array of window 11. -/
theorem array11 (c : Dev nD) : V m c (Pipeline.arrRef spec0 11) = V m c main_v22 := rfl

/-- A read of any array through the block of window 11. -/
theorem read11 (c : Dev nD) (t : Fin cfg0.N) (A : Buf (Elt Ideal) ((c : Thread nD τ).loc (Pipeline.arrRef spec0 11)))
    (y : S1x1024.Idx) : ((cfg0.win 11).blk t).view.read (Elt Ideal) A y = A ((win0_11.blk t).view.emb y) := rfl

/-- The block of window 11 is the array read where the block sits. -/
theorem block11 (c : Dev nD) (t : Fin cfg0.N) (y : S1x1024.Idx) :
    iblk m c 11 t y = V m c main_v22 ((win0_11.blk t).view.emb y) :=
  (read11 c t (V m c (Pipeline.arrRef spec0 11)) y).trans (congrFun (array11 m c) _)

/-- Its element, of the operand given. -/
theorem whole11 (c : Dev nD) (t : Fin cfg0.N) (k : Fin 1024) :
    (show FVec Ideal S1x1024 .f32 from iblk m c 11 t) (ix2 0 k)
      = (show FVec Ideal S1024 .f32 from m ((c : Thread nD τ).loc main_arg11)) (ix1 k) := by
  have hv : (show FVec Ideal S1x1024 .f32 from V m c main_v22) (ix2 0 k)
      = (show FVec Ideal S1024 .f32 from m ((c : Thread nD τ).loc main_arg11)) (ix1 k) := by
    simp only [V, hostOps0, hostOps0_1, hostOps0_2, hostOps0_3, hostOps0_4, List.flatten_cons, List.flatten_nil, List.append_nil,
      List.cons_append, List.nil_append]
    entry_read
    pointwise
  rw [← hv]
  refine (block11 m c t (ix2 0 k)).trans (congrArg _ ?_)
  blk_ext [idx11 t]

/-! ## The array -/

/-- The call's first result over its operands. -/
abbrev result (c : Dev nD) : FVec Ideal S32768x1024 .f32 :=
  Cert.MergeReferenceIdeal.Plain.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))

/-- An element of a point's block is the result's. -/
theorem point (c : Dev nD) (t : Fin cfg0.N) (R j : Fin 1024) (b : Fin 8) (r : Fin 4096)
    (h : b.val * 4096 + r.val = t.val * 1024 + R.val) :
    Block.out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) R j
      = entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) b r j := by
  unfold Block.out entry
  simp only [rows0 m c t R _ b r h, rows1 m c t R _ b r h, rows2 m c t R _ b r h, rows3 m c t R _ b r h, whole4 m c t, whole5 m c t,
    whole6 m c t, whole7 m c t, whole8 m c t, whole9 m c t, whole10 m c t, whole11 m c t]

/-- The result array after the run. -/
theorem final (c : Dev nD) : (dats m 0 c).arrAt 14 cfg0.N = result m c := by
  refine (dats m 0 c).arrAt_eq_of_covers 14 _ (by decide +kernel) fun t hf y => ?_
  have ht : t.val < 32 := t.isLt
  blk_simp
  rw [after0_14]
  idx_vars y
  obtain_idx j : S32768x1024 := [t.val * 1024 + y0.val, y1.val] with hj
  have hemb : ((win0_14.blk t).view.emb (ix2 y0 y1)) = j := by
    blk_ext [idx14 t]
  refine Eq.trans ?_ (congrArg (result m c) hemb.symm)
  refine (Block.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y0 y1).trans ?_
  refine (point m c t y0 y1 ⟨(j 0).val / 4096, by omega⟩ ⟨(j 0).val % 4096, by omega⟩
    (by show (j 0).val / 4096 * 4096 + (j 0).val % 4096 = _; omega)).trans ?_
  rw [← show j 1 = y1 from Fin.ext hj1]
  rfl

end Cert.MergeIdeal.Array

end
-- ==== Proof.lean ====
/-
  The claims of this certificate, proved: the programs run and leave their arguments as they were; the idealized
  kernels are the kernels with their scale named; each attention call computes what its plain attention computes; the
  experts call computes what the plain experts compute; and the output call's first result is the plain output step's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaReferenceIdeal
public import proofs.«01_k».proof.Proof.Gen.Pre_finite
public import proofs.«01_k».proof.Proof.Gen.Pre_finite_mla
public import proofs.«01_k».proof.Proof.Gen.KernelIdeal.Value
public import proofs.«01_k».proof.Proof.Gen.MlaIdeal.Value
public import proofs.«01_k».proof.Proof.Gen.ReferenceIdeal.Run
public import proofs.«01_k».proof.Proof.Gen.MlaReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Merge
public import proofs.«01_k».proof.Proof.Gen.MergeIdeal
public import proofs.«01_k».proof.Proof.Gen.MergeReferenceIdeal
public import proofs.«01_k».proof.Proof.Gen.MergeReferenceIdeal.Run
public import proofs.«01_k».proof.Proof.Gen.Merge.Frame
public import proofs.«01_k».proof.Proof.Gen.MergeIdeal.Value
public import proofs.«01_k».proof.Proof.Gen.Pre_ranges
public import proofs.«01_k».proof.Proof.Gqa
public import proofs.«01_k».proof.Proof.Mla
public import proofs.«01_k».proof.Proof.Finite
public import proofs.«01_k».proof.Proof.ExpertsRun
public import proofs.«01_k».proof.Proof.ExpertsText
public import proofs.«01_k».proof.Proof.ExpertsRanges
public import proofs.«01_k».proof.Proof.ExpertsReference
public import proofs.«01_k».proof.Proof.ExpertsValue
public import proofs.«01_k».proof.Proof.MergeReference
public import proofs.«01_k».proof.Proof.MergeValue
public import Idealize.ShloMosaic.Lib.Claim
public import Idealize.ShloMosaic.Adequacy
public import Idealize.ShloMosaic.Init

@[expose] public section

noncomputable section

namespace Cert.Proof

open Idealize.ShloMosaic Idealize.SL.Sem

/-- The plain grouped-query attention runs and leaves its arguments as they were. -/
theorem quiescent_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The grouped-query attention call's scale is the real number it is named as, rounded. -/
theorem preserves : Cert.preserves_Kernel_KernelIdeal :=
  IdealRules.named_const.statement Cert.KernelIdeal.κ "qscale" .f32 0x3E38AA3B#32 _ rfl

/-- The grouped-query attention call and the plain grouped-query attention have the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, Cert.KernelIdeal.Value.run_blocks m g,
    (θ_run _ _ _).mono (fun r h c => ⟨(h c).1.trans ?_, (h c).2⟩) (Cert.ReferenceIdeal.Attention.run m' g')⟩
  obtain ⟨hq, hk⟩ := Cert.Finite.finite (hpre c)
  obtain ⟨e0, e1, e2⟩ := hagree c
  rw [e0, e1, e2]
  exact ((Cert.KernelIdeal.Array.final m c).trans (Cert.KernelIdeal.Gqa.result_eq m c hq hk)).symm

/-- The plain latent attention runs and leaves its arguments as they were. -/
theorem quiescent_reference_mla : Cert.quiescent_MlaReferenceIdeal (hMlaReferenceIdeal := Cert.MlaReferenceIdeal.Gen.facts) :=
  fun m g _ => (θ_run _ _ _).mono (fun r h => ⟨fun c => (h c).2, sem_eq_zero_of_no_sems (by decide) r.2⟩)
    (Cert.MlaReferenceIdeal.Value.run m g)

/-- The latent attention call's scale is the real number it is named as, rounded. -/
theorem preserves_mla : Cert.preserves_Mla_MlaIdeal :=
  IdealRules.named_const.statement Cert.MlaIdeal.κ "qscale_mla" .f32 0x3E16C740#32 _ rfl

/-- The latent attention call and the plain latent attention have the same result. -/
theorem algebraic_mla : Cert.algebraic_MlaIdeal_MlaReferenceIdeal_pre_finite_mla (hMlaIdeal := Cert.MlaIdeal.Gen.facts)
    (hMlaReferenceIdeal := Cert.MlaReferenceIdeal.Gen.facts) (hPre_finite_mla := Cert.Pre_finite_mla.Gen.facts) := by
  intro m g m' g' hpre hagree
  refine ⟨_, Cert.MlaIdeal.Value.run_blocks m g,
    (θ_run _ _ _).mono (fun r h c => ⟨(h c).1.trans ?_, (h c).2⟩) (Cert.MlaReferenceIdeal.Attention.run m' g')⟩
  obtain ⟨hq, hk⟩ := Cert.Finite.finite_mla (hpre c)
  obtain ⟨e0, e1, e2⟩ := hagree c
  rw [e0, e1, e2]
  exact ((Cert.MlaIdeal.Array.final m c).trans (Cert.MlaIdeal.Mla.result_eq m c hq hk)).symm

/-- The tables of a launch that meets the precondition, and that every core holds them. -/
theorem tables {F : FTy → Type} [FloatOps F] (m : (ℓ : Loc Cert.ExpertsIdeal.nD Cert.ExpertsIdeal.τ Cert.ExpertsIdeal.sig) → Buf (Elt F) ℓ)
    (h : ∀ c : Dev Cert.ExpertsIdeal.nD, (∀ x, (m ((c.tc : Thread Cert.ExpertsIdeal.nD Cert.ExpertsIdeal.τ).loc Cert.ExpertsIdeal.main_arg0) x : BitVec 32).toNat < 32)
      ∧ ∀ x, 1 ≤ (m ((c.tc : Thread Cert.ExpertsIdeal.nD Cert.ExpertsIdeal.τ).loc Cert.ExpertsIdeal.main_arg1) x : BitVec 32).toNat
        ∧ (m ((c.tc : Thread Cert.ExpertsIdeal.nD Cert.ExpertsIdeal.τ).loc Cert.ExpertsIdeal.main_arg1) x : BitVec 32).toNat ≤ 656) :
    ∃ ch, Cert.ExpertsIdeal.Run.Pinned ch m := by
  let c₀ : Dev Cert.ExpertsIdeal.nD := 0
  exact ⟨⟨(m ((c₀.tc : Thread Cert.ExpertsIdeal.nD Cert.ExpertsIdeal.τ).loc Cert.ExpertsIdeal.main_arg0),
    m ((c₀.tc : Thread Cert.ExpertsIdeal.nD Cert.ExpertsIdeal.τ).loc Cert.ExpertsIdeal.main_arg1)), h c₀⟩,
    fun c => by rw [Subsingleton.elim c c₀], fun c => by rw [Subsingleton.elim c c₀]⟩

/-- The experts call runs at the tables its precondition admits, and leaves its arguments as they were. -/
theorem quiescent_experts : Cert.quiescent_Experts (hExperts := Cert.Experts.Gen.facts) (hPre_ranges := Cert.Pre_ranges.Gen.facts) := by
  intro m g hpre
  obtain ⟨ch, hp⟩ := tables (F := Bits) m fun c => Cert.Ranges.ranges (hpre c)
  rw [Cert.Experts.Text.defs, Cert.Experts.Text.main]
  exact Cert.ExpertsIdeal.Run.frame (F := Bits) ch m g hp

/-- So does the idealized experts call. -/
theorem quiescent_experts_ideal : Cert.quiescent_ExpertsIdeal (hExpertsIdeal := Cert.ExpertsIdeal.Gen.facts)
    (hPre_ranges := Cert.Pre_ranges.Gen.facts) := by
  intro m g hpre
  obtain ⟨ch, hp⟩ := tables (F := Ideal) m fun c => Cert.Ranges.ranges (hpre c)
  exact Cert.ExpertsIdeal.Run.frame ch m g hp

/-- The plain experts run and leave their arguments as they were. -/
theorem quiescent_reference_experts : Cert.quiescent_ExpertsReferenceIdeal (hExpertsReferenceIdeal := Cert.ExpertsReferenceIdeal.Gen.facts)
    (hPre_ranges := Cert.Pre_ranges.Gen.facts) :=
  fun m g _ => (θ_run _ _ _).mono (fun r h => ⟨fun c => (h c).2, sem_eq_zero_of_no_sems (by decide) r.2⟩)
    (Cert.ExpertsReferenceIdeal.Value.run m g)

/-- The experts call and the plain experts have the same result. -/
theorem algebraic_experts : Cert.algebraic_ExpertsIdeal_ExpertsReferenceIdeal (hExpertsIdeal := Cert.ExpertsIdeal.Gen.facts)
    (hExpertsReferenceIdeal := Cert.ExpertsReferenceIdeal.Gen.facts) (hPre_ranges := Cert.Pre_ranges.Gen.facts) := by
  intro m g m' g' hpre hagree
  obtain ⟨ch, hp⟩ := tables (F := Ideal) m fun c => Cert.Ranges.ranges (hpre c)
  refine ⟨fun c => Cert.ExpertsIdeal.Array.result m c,
    (θ_run _ _ _).mono (fun r h c => ⟨((h.1 c).1 (5 : Fin 6)).trans (Cert.ExpertsIdeal.Array.final ch m hp c), h.2 c⟩)
      (θ_run_and (Cert.ExpertsIdeal.Run.run_main ch m g hp) (Cert.ExpertsIdeal.Run.unchanged ch m g hp)),
    (θ_run _ _ _).mono (fun r h c => ⟨(h c).1.trans ?_, (h c).2⟩) (Cert.ExpertsReferenceIdeal.Plain.run m' g'
      (fun c x => by rw [(hagree c).1]; exact (Cert.Ranges.ranges (hpre c)).1 x)
      (fun c x => by rw [(hagree c).2.1]; exact ((Cert.Ranges.ranges (hpre c)).2 x).2))⟩
  obtain ⟨e0, e1, e2, e3, e4, e5, e6⟩ := hagree c
  rw [e0, e1, e2, e3, e4, e5, e6]

/-- The plain output step runs and leaves its arguments as they were. -/
theorem quiescent_reference_merge : Cert.quiescent_MergeReferenceIdeal (hMergeReferenceIdeal := Cert.MergeReferenceIdeal.Gen.facts) :=
  fun m g _ => (θ_run _ _ _).mono (fun r h => ⟨fun c => (h c).2, sem_eq_zero_of_no_sems (by decide) r.2⟩)
    (Cert.MergeReferenceIdeal.Value.run m g)

/-- The output call's first result is the plain output step's result. -/
theorem algebraic_merge : Cert.algebraic_MergeIdeal_MergeReferenceIdeal (hMergeIdeal := Cert.MergeIdeal.Gen.facts)
    (hMergeReferenceIdeal := Cert.MergeReferenceIdeal.Gen.facts) := by
  intro m g m' g' hpre hagree
  refine ⟨fun c => Cert.MergeIdeal.Array.result m c,
    (θ_run _ _ _).mono (fun r h c => ⟨(h c).1.trans (Cert.MergeIdeal.Array.final m c), (h c).2.2.2⟩) (Cert.MergeIdeal.Value.run_blocks m g),
    (θ_run _ _ _).mono (fun r h c => ⟨(h c).1.trans ?_, (h c).2⟩) (Cert.MergeReferenceIdeal.Plain.run m' g')⟩
  obtain ⟨e0, e1, e2, e3, e4, e5, e6, e7, e8, e9, e10, e11, e12, e13⟩ := hagree c
  rw [e0, e1, e2, e3, e4, e5, e6, e7, e8, e9, e10, e11]

/-- Everything this certificate claims. -/
theorem claim : Cert.Claim := ⟨Cert.Kernel.Gen.facts, Cert.KernelIdeal.Gen.facts, Cert.ReferenceIdeal.Gen.facts, Cert.Mla.Gen.facts, Cert.MlaIdeal.Gen.facts, Cert.MlaReferenceIdeal.Gen.facts,
  Cert.Experts.Gen.facts, Cert.ExpertsIdeal.Gen.facts, Cert.ExpertsReferenceIdeal.Gen.facts,
  Cert.Merge.Gen.facts, Cert.MergeIdeal.Gen.facts, Cert.MergeReferenceIdeal.Gen.facts, Cert.Pre_finite.Gen.facts, Cert.Pre_finite_mla.Gen.facts,
  Cert.Pre_ranges.Gen.facts, fun m ρ _ => Cert.Kernel.Gen.frame m ρ, fun m ρ _ => Cert.KernelIdeal.Gen.frame m ρ,
  fun m ρ _ => Cert.KernelIdeal.Gen.frame m ρ, quiescent_reference, fun m ρ _ => quiescent_reference m ρ trivial,
  fun m ρ _ => Cert.Mla.Gen.frame m ρ, fun m ρ _ => Cert.MlaIdeal.Gen.frame m ρ, fun m ρ _ => Cert.MlaIdeal.Gen.frame m ρ,
  quiescent_reference_mla, fun m ρ _ => quiescent_reference_mla m ρ trivial,
  quiescent_experts, quiescent_experts_ideal, quiescent_reference_experts,
  fun m ρ _ => Cert.Merge.Gen.frame m ρ, fun m ρ _ => Cert.MergeIdeal.Gen.frame m ρ, quiescent_reference_merge,
  preserves, algebraic, preserves_mla, algebraic_mla, trivial, algebraic_experts, trivial, algebraic_merge⟩

end Cert.Proof

end
